-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  IdealRules.named_const.Statement Cert.KernelIdeal.κ "log2e" .f32 0x3DB8AA3B#32 (((Real.log 65536)⁻¹ : ℝ) : EReal)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v61) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ preserves_Kernel2_Kernel2Ideal
    ∧ algebraic_Kernel2Ideal_Reference2Ideal (hKernel2Ideal := hKernel2Ideal) (hReference2Ideal := hReference2Ideal)
-- ==== Kernel.lean ====
abbrev S128x4x1024 : Shape := ⟨3, ![128, 4, 1024]⟩
abbrev S128x32x64 : Shape := ⟨3, ![128, 32, 64]⟩
abbrev S128x4x64x128 : Shape := ⟨4, ![128, 4, 64, 128]⟩
abbrev S1024 : Shape := ⟨1, ![1024]⟩
abbrev S1024x4112 : Shape := ⟨2, ![1024, 4112]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S512x512 : Shape := ⟨2, ![512, 512]⟩
abbrev S16x256 : Shape := ⟨2, ![16, 256]⟩
abbrev S256 : Shape := ⟨1, ![256]⟩
abbrev S128 : Shape := ⟨1, ![128]⟩
abbrev S512x1024 : Shape := ⟨2, ![512, 1024]⟩
abbrev S1024x1024 : Shape := ⟨2, ![1024, 1024]⟩
abbrev S4112 : Shape := ⟨1, ![4112]⟩
abbrev S4112x1 : Shape := ⟨2, ![4112, 1]⟩
abbrev S128x256 : Shape := ⟨2, ![128, 256]⟩
abbrev S256x128 : Shape := ⟨2, ![256, 128]⟩
abbrev S1x128x256 : Shape := ⟨3, ![1, 128, 256]⟩
abbrev S4112x1024 : Shape := ⟨2, ![4112, 1024]⟩
abbrev S_ : Shape := ⟨0, ![]⟩
abbrev S32x1 : Shape := ⟨2, ![32, 1]⟩
abbrev S32x64x1 : Shape := ⟨3, ![32, 64, 1]⟩
abbrev S16x16x64 : Shape := ⟨3, ![16, 16, 64]⟩
abbrev S256x64 : Shape := ⟨2, ![256, 64]⟩
abbrev S1x256x1x64 : Shape := ⟨4, ![1, 256, 1, 64]⟩
abbrev S1x256x16x64 : Shape := ⟨4, ![1, 256, 16, 64]⟩
abbrev S256x1024 : Shape := ⟨2, ![256, 1024]⟩
abbrev S1x256x1024 : Shape := ⟨3, ![1, 256, 1024]⟩
abbrev S4x256x1024 : Shape := ⟨3, ![4, 256, 1024]⟩
abbrev S16x64x16 : Shape := ⟨3, ![16, 64, 16]⟩
abbrev S1024x16 : Shape := ⟨2, ![1024, 16]⟩
abbrev S1x1024x1x16 : Shape := ⟨4, ![1, 1024, 1, 16]⟩
abbrev S1x1024x16x16 : Shape := ⟨4, ![1, 1024, 16, 16]⟩
abbrev S1024x256 : Shape := ⟨2, ![1024, 256]⟩
abbrev S2048x256 : Shape := ⟨2, ![2048, 256]⟩
abbrev S1x2048x256 : Shape := ⟨3, ![1, 2048, 256]⟩
abbrev S2x2048x256 : Shape := ⟨3, ![2, 2048, 256]⟩
abbrev S1x1024 : Shape := ⟨2, ![1, 1024]⟩
abbrev S1x256 : Shape := ⟨2, ![1, 256]⟩
abbrev S1x2048 : Shape := ⟨2, ![1, 2048]⟩
abbrev S1x512 : Shape := ⟨2, ![1, 512]⟩
abbrev S1x128 : Shape := ⟨2, ![1, 128]⟩
abbrev S4x128 : Shape := ⟨2, ![4, 128]⟩
abbrev S512 : Shape := ⟨1, ![512]⟩
abbrev S128x2048 : Shape := ⟨2, ![128, 2048]⟩
abbrev S512x64x128 : Shape := ⟨3, ![512, 64, 128]⟩
abbrev S32x4x1024 : Shape := ⟨3, ![32, 4, 1024]⟩
abbrev S32x2048 : Shape := ⟨2, ![32, 2048]⟩
abbrev S128x64x128 : Shape := ⟨3, ![128, 64, 128]⟩
abbrev S256x512 : Shape := ⟨2, ![256, 512]⟩
abbrev S128x4096 : Shape := ⟨2, ![128, 4096]⟩
abbrev S256x256 : Shape := ⟨2, ![256, 256]⟩
abbrev S32x8x1024 : Shape := ⟨3, ![32, 8, 1024]⟩
abbrev S256x1 : Shape := ⟨2, ![256, 1]⟩
abbrev S128x1024 : Shape := ⟨2, ![128, 1024]⟩
abbrev S128x512 : Shape := ⟨2, ![128, 512]⟩
abbrev S8x512 : Shape := ⟨2, ![8, 512]⟩
abbrev S128x128 : Shape := ⟨2, ![128, 128]⟩
abbrev S16x128 : Shape := ⟨2, ![16, 128]⟩
abbrev S16x8x128 : Shape := ⟨3, ![16, 8, 128]⟩
abbrev S16x1x8x128 : Shape := ⟨4, ![16, 1, 8, 128]⟩
abbrev S16x1x128 : Shape := ⟨3, ![16, 1, 128]⟩
abbrev S512x256 : Shape := ⟨2, ![512, 256]⟩
abbrev S16x1x8x256 : Shape := ⟨4, ![16, 1, 8, 256]⟩
abbrev S128x64 : Shape := ⟨2, ![128, 64]⟩
abbrev S1x64x128 : Shape := ⟨3, ![1, 64, 128]⟩
abbrev S64x128 : Shape := ⟨2, ![64, 128]⟩
abbrev S8x64 : Shape := ⟨2, ![8, 64]⟩
abbrev S8x128 : Shape := ⟨2, ![8, 128]⟩
abbrev S24x64 : Shape := ⟨2, ![24, 64]⟩
abbrev S8x256 : Shape := ⟨2, ![8, 256]⟩
abbrev S24x256 : Shape := ⟨2, ![24, 256]⟩
abbrev S64x256 : Shape := ⟨2, ![64, 256]⟩
abbrev S128x1 : Shape := ⟨2, ![128, 1]⟩

abbrev nBuf : Space → Nat
  | .hbm => 526
  | .vmem => 50
  | .smem => 0
  | _ => 0

abbrev hbmTy0_0 (i : Nat) : BufTy := match i % 128 with
  | 0 => ⟨S128x4x1024, .f32⟩
  | 1 => ⟨S128x32x64, .f32⟩
  | 2 => ⟨S128x32x64, .f32⟩
  | 3 => ⟨S128x4x64x128, .f32⟩
  | 4 => ⟨S1024, .f32⟩
  | 5 => ⟨S1024x4112, .f32⟩
  | 6 => ⟨S32x64, .f32⟩
  | 7 => ⟨S32x64, .f32⟩
  | 8 => ⟨S32, .f32⟩
  | 9 => ⟨S32x64x16, .f32⟩
  | 10 => ⟨S32x64x16, .f32⟩
  | 11 => ⟨S32x16x64, .f32⟩
  | 12 => ⟨S32x16x64, .f32⟩
  | 13 => ⟨S32x16, .f32⟩
  | 14 => ⟨S512x512, .f32⟩
  | 15 => ⟨S16x256, .f32⟩
  | 16 => ⟨S256, .f32⟩
  | 17 => ⟨S128, .f32⟩
  | 18 => ⟨S512x1024, .f32⟩
  | 19 => ⟨S512x1024, .f32⟩
  | 20 => ⟨S1024x1024, .f32⟩
  | 21 => ⟨S4112, .f32⟩
  | 22 => ⟨S4112x1, .f32⟩
  | 23 => ⟨S128x256, .bf16⟩
  | 24 => ⟨S256x128, .bf16⟩
  | 25 => ⟨S128x256, .bf16⟩
  | 26 => ⟨S128x256, .bf16⟩
  | 27 => ⟨S1x128x256, .bf16⟩
  | 28 => ⟨S4112x1024, .f32⟩
  | 29 => ⟨S4112x1024, .f32⟩
  | 30 => ⟨S4112x1024, .f32⟩
  | 31 => ⟨S4112x1024, .bf16⟩
  | 32 => ⟨S_, .i32⟩
  | 33 => ⟨S_, .f32⟩
  | 34 => ⟨S128x256, .f32⟩
  | 35 => ⟨S128x256, .bf16⟩
  | 36 => ⟨S32, .f32⟩
  | 37 => ⟨S32x1, .f32⟩
  | 38 => ⟨S_, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S32x64, .f32⟩
  | 55 => ⟨S_, .f32⟩
  | 56 => ⟨S32x64, .f32⟩
  | 57 => ⟨S32x64, .f32⟩
  | 58 => ⟨S32x64, .f32⟩
  | 59 => ⟨S32x64, .f32⟩
  | 60 => ⟨S32x64, .f32⟩
  | 61 => ⟨S32x64, .f32⟩
  | 62 => ⟨S32x64, .f32⟩
  | 63 => ⟨S_, .f32⟩
  | 64 => ⟨S32x64, .f32⟩
  | 65 => ⟨S32x64, .f32⟩
  | 66 => ⟨S32x64, .f32⟩
  | 67 => ⟨S32x64, .f32⟩
  | 68 => ⟨S32x64, .f32⟩
  | 69 => ⟨S32x64x1, .f32⟩
  | 70 => ⟨S32x64x16, .f32⟩
  | 71 => ⟨S32x64x16, .f32⟩
  | 72 => ⟨S32x64x1, .f32⟩
  | 73 => ⟨S32x64x16, .f32⟩
  | 74 => ⟨S32x64x16, .f32⟩
  | 75 => ⟨S32x64x16, .f32⟩
  | 76 => ⟨S32x64x1, .f32⟩
  | 77 => ⟨S32x64x16, .f32⟩
  | 78 => ⟨S32x64x16, .f32⟩
  | 79 => ⟨S32x64x1, .f32⟩
  | 80 => ⟨S32x64x16, .f32⟩
  | 81 => ⟨S32x64x16, .f32⟩
  | 82 => ⟨S32x64x16, .f32⟩
  | 83 => ⟨S32x16x64, .f32⟩
  | 84 => ⟨S32x16x64, .f32⟩
  | 85 => ⟨S16x16x64, .f32⟩
  | 86 => ⟨S16x16x64, .bf16⟩
  | 87 => ⟨S256x64, .bf16⟩
  | 88 => ⟨S1x256x1x64, .bf16⟩
  | 89 => ⟨S1x256x16x64, .bf16⟩
  | 90 => ⟨S256x1024, .bf16⟩
  | 91 => ⟨S256x1024, .i32⟩
  | 92 => ⟨S_, .i32⟩
  | 93 => ⟨S_, .i32⟩
  | 94 => ⟨S256x1024, .i32⟩
  | 95 => ⟨S256x1024, .i32⟩
  | 96 => ⟨S256x1024, .i32⟩
  | 97 => ⟨S_, .i32⟩
  | 98 => ⟨S256x1024, .i32⟩
  | 99 => ⟨S256x1024, .i1⟩
  | 100 => ⟨S256x1024, .i32⟩
  | 101 => ⟨S256x1024, .i32⟩
  | 102 => ⟨S_, .i32⟩
  | 103 => ⟨S256x1024, .i32⟩
  | 104 => ⟨S256x1024, .i1⟩
  | 105 => ⟨S256x1024, .i1⟩
  | 106 => ⟨S_, .i32⟩
  | 107 => ⟨S256x1024, .i32⟩
  | 108 => ⟨S256x1024, .i32⟩
  | 109 => ⟨S256x1024, .i32⟩
  | 110 => ⟨S256x1024, .i32⟩
  | 111 => ⟨S_, .i32⟩
  | 112 => ⟨S_, .i32⟩
  | 113 => ⟨S256x1024, .i32⟩
  | 114 => ⟨S256x1024, .i32⟩
  | 115 => ⟨S256x1024, .i32⟩
  | 116 => ⟨S_, .i32⟩
  | 117 => ⟨S256x1024, .i32⟩
  | 118 => ⟨S256x1024, .i1⟩
  | 119 => ⟨S256x1024, .i32⟩
  | 120 => ⟨S256x1024, .i32⟩
  | 121 => ⟨S_, .i32⟩
  | 122 => ⟨S256x1024, .i32⟩
  | 123 => ⟨S256x1024, .i1⟩
  | 124 => ⟨S256x1024, .i1⟩
  | 125 => ⟨S_, .i32⟩
  | 126 => ⟨S256x1024, .i32⟩
  | 127 => ⟨S256x1024, .i32⟩
  | _ => ⟨S128x4x1024, .f32⟩

abbrev hbmTy0_1 (i : Nat) : BufTy := match i % 128 with
  | 0 => ⟨S256x1024, .i32⟩
  | 1 => ⟨S256x1024, .i1⟩
  | 2 => ⟨S_, .bf16⟩
  | 3 => ⟨S256x1024, .bf16⟩
  | 4 => ⟨S256x1024, .bf16⟩
  | 5 => ⟨S16x16x64, .f32⟩
  | 6 => ⟨S16x16x64, .bf16⟩
  | 7 => ⟨S256x64, .bf16⟩
  | 8 => ⟨S1x256x1x64, .bf16⟩
  | 9 => ⟨S1x256x16x64, .bf16⟩
  | 10 => ⟨S256x1024, .bf16⟩
  | 11 => ⟨S256x1024, .i32⟩
  | 12 => ⟨S_, .i32⟩
  | 13 => ⟨S_, .i32⟩
  | 14 => ⟨S256x1024, .i32⟩
  | 15 => ⟨S256x1024, .i32⟩
  | 16 => ⟨S256x1024, .i32⟩
  | 17 => ⟨S_, .i32⟩
  | 18 => ⟨S256x1024, .i32⟩
  | 19 => ⟨S256x1024, .i1⟩
  | 20 => ⟨S256x1024, .i32⟩
  | 21 => ⟨S256x1024, .i32⟩
  | 22 => ⟨S_, .i32⟩
  | 23 => ⟨S256x1024, .i32⟩
  | 24 => ⟨S256x1024, .i1⟩
  | 25 => ⟨S256x1024, .i1⟩
  | 26 => ⟨S_, .i32⟩
  | 27 => ⟨S256x1024, .i32⟩
  | 28 => ⟨S256x1024, .i32⟩
  | 29 => ⟨S256x1024, .i32⟩
  | 30 => ⟨S256x1024, .i32⟩
  | 31 => ⟨S_, .i32⟩
  | 32 => ⟨S_, .i32⟩
  | 33 => ⟨S256x1024, .i32⟩
  | 34 => ⟨S256x1024, .i32⟩
  | 35 => ⟨S256x1024, .i32⟩
  | 36 => ⟨S_, .i32⟩
  | 37 => ⟨S256x1024, .i32⟩
  | 38 => ⟨S256x1024, .i1⟩
  | 39 => ⟨S256x1024, .i32⟩
  | 40 => ⟨S256x1024, .i32⟩
  | 41 => ⟨S_, .i32⟩
  | 42 => ⟨S256x1024, .i32⟩
  | 43 => ⟨S256x1024, .i1⟩
  | 44 => ⟨S256x1024, .i1⟩
  | 45 => ⟨S_, .i32⟩
  | 46 => ⟨S256x1024, .i32⟩
  | 47 => ⟨S256x1024, .i32⟩
  | 48 => ⟨S256x1024, .i32⟩
  | 49 => ⟨S256x1024, .i1⟩
  | 50 => ⟨S_, .bf16⟩
  | 51 => ⟨S256x1024, .bf16⟩
  | 52 => ⟨S256x1024, .bf16⟩
  | 53 => ⟨S16x16x64, .f32⟩
  | 54 => ⟨S16x16x64, .bf16⟩
  | 55 => ⟨S256x64, .bf16⟩
  | 56 => ⟨S1x256x1x64, .bf16⟩
  | 57 => ⟨S1x256x16x64, .bf16⟩
  | 58 => ⟨S256x1024, .bf16⟩
  | 59 => ⟨S256x1024, .i32⟩
  | 60 => ⟨S_, .i32⟩
  | 61 => ⟨S_, .i32⟩
  | 62 => ⟨S256x1024, .i32⟩
  | 63 => ⟨S256x1024, .i32⟩
  | 64 => ⟨S256x1024, .i32⟩
  | 65 => ⟨S_, .i32⟩
  | 66 => ⟨S256x1024, .i32⟩
  | 67 => ⟨S256x1024, .i1⟩
  | 68 => ⟨S256x1024, .i32⟩
  | 69 => ⟨S256x1024, .i32⟩
  | 70 => ⟨S_, .i32⟩
  | 71 => ⟨S256x1024, .i32⟩
  | 72 => ⟨S256x1024, .i1⟩
  | 73 => ⟨S256x1024, .i1⟩
  | 74 => ⟨S_, .i32⟩
  | 75 => ⟨S256x1024, .i32⟩
  | 76 => ⟨S256x1024, .i32⟩
  | 77 => ⟨S256x1024, .i32⟩
  | 78 => ⟨S256x1024, .i32⟩
  | 79 => ⟨S_, .i32⟩
  | 80 => ⟨S_, .i32⟩
  | 81 => ⟨S256x1024, .i32⟩
  | 82 => ⟨S256x1024, .i32⟩
  | 83 => ⟨S256x1024, .i32⟩
  | 84 => ⟨S_, .i32⟩
  | 85 => ⟨S256x1024, .i32⟩
  | 86 => ⟨S256x1024, .i1⟩
  | 87 => ⟨S256x1024, .i32⟩
  | 88 => ⟨S256x1024, .i32⟩
  | 89 => ⟨S_, .i32⟩
  | 90 => ⟨S256x1024, .i32⟩
  | 91 => ⟨S256x1024, .i1⟩
  | 92 => ⟨S256x1024, .i1⟩
  | 93 => ⟨S_, .i32⟩
  | 94 => ⟨S256x1024, .i32⟩
  | 95 => ⟨S256x1024, .i32⟩
  | 96 => ⟨S256x1024, .i32⟩
  | 97 => ⟨S256x1024, .i1⟩
  | 98 => ⟨S_, .bf16⟩
  | 99 => ⟨S256x1024, .bf16⟩
  | 100 => ⟨S256x1024, .bf16⟩
  | 101 => ⟨S16x16x64, .f32⟩
  | 102 => ⟨S16x16x64, .bf16⟩
  | 103 => ⟨S256x64, .bf16⟩
  | 104 => ⟨S1x256x1x64, .bf16⟩
  | 105 => ⟨S1x256x16x64, .bf16⟩
  | 106 => ⟨S256x1024, .bf16⟩
  | 107 => ⟨S256x1024, .i32⟩
  | 108 => ⟨S_, .i32⟩
  | 109 => ⟨S_, .i32⟩
  | 110 => ⟨S256x1024, .i32⟩
  | 111 => ⟨S256x1024, .i32⟩
  | 112 => ⟨S256x1024, .i32⟩
  | 113 => ⟨S_, .i32⟩
  | 114 => ⟨S256x1024, .i32⟩
  | 115 => ⟨S256x1024, .i1⟩
  | 116 => ⟨S256x1024, .i32⟩
  | 117 => ⟨S256x1024, .i32⟩
  | 118 => ⟨S_, .i32⟩
  | 119 => ⟨S256x1024, .i32⟩
  | 120 => ⟨S256x1024, .i1⟩
  | 121 => ⟨S256x1024, .i1⟩
  | 122 => ⟨S_, .i32⟩
  | 123 => ⟨S256x1024, .i32⟩
  | 124 => ⟨S256x1024, .i32⟩
  | 125 => ⟨S256x1024, .i32⟩
  | 126 => ⟨S256x1024, .i32⟩
  | 127 => ⟨S_, .i32⟩
  | _ => ⟨S128x4x1024, .f32⟩

abbrev hbmTy0_2 (i : Nat) : BufTy := match i % 128 with
  | 0 => ⟨S_, .i32⟩
  | 1 => ⟨S256x1024, .i32⟩
  | 2 => ⟨S256x1024, .i32⟩
  | 3 => ⟨S256x1024, .i32⟩
  | 4 => ⟨S_, .i32⟩
  | 5 => ⟨S256x1024, .i32⟩
  | 6 => ⟨S256x1024, .i1⟩
  | 7 => ⟨S256x1024, .i32⟩
  | 8 => ⟨S256x1024, .i32⟩
  | 9 => ⟨S_, .i32⟩
  | 10 => ⟨S256x1024, .i32⟩
  | 11 => ⟨S256x1024, .i1⟩
  | 12 => ⟨S256x1024, .i1⟩
  | 13 => ⟨S_, .i32⟩
  | 14 => ⟨S256x1024, .i32⟩
  | 15 => ⟨S256x1024, .i32⟩
  | 16 => ⟨S256x1024, .i32⟩
  | 17 => ⟨S256x1024, .i1⟩
  | 18 => ⟨S_, .bf16⟩
  | 19 => ⟨S256x1024, .bf16⟩
  | 20 => ⟨S256x1024, .bf16⟩
  | 21 => ⟨S1x256x1024, .bf16⟩
  | 22 => ⟨S1x256x1024, .bf16⟩
  | 23 => ⟨S1x256x1024, .bf16⟩
  | 24 => ⟨S1x256x1024, .bf16⟩
  | 25 => ⟨S4x256x1024, .bf16⟩
  | 26 => ⟨S32x64x16, .f32⟩
  | 27 => ⟨S32x64x16, .f32⟩
  | 28 => ⟨S32x64x16, .f32⟩
  | 29 => ⟨S16x64x16, .f32⟩
  | 30 => ⟨S16x64x16, .bf16⟩
  | 31 => ⟨S1024x16, .bf16⟩
  | 32 => ⟨S1x1024x1x16, .bf16⟩
  | 33 => ⟨S1x1024x16x16, .bf16⟩
  | 34 => ⟨S1024x256, .bf16⟩
  | 35 => ⟨S1024x256, .i32⟩
  | 36 => ⟨S_, .i32⟩
  | 37 => ⟨S_, .i32⟩
  | 38 => ⟨S1024x256, .i32⟩
  | 39 => ⟨S1024x256, .i32⟩
  | 40 => ⟨S1024x256, .i32⟩
  | 41 => ⟨S_, .i32⟩
  | 42 => ⟨S1024x256, .i32⟩
  | 43 => ⟨S1024x256, .i1⟩
  | 44 => ⟨S1024x256, .i32⟩
  | 45 => ⟨S1024x256, .i32⟩
  | 46 => ⟨S_, .i32⟩
  | 47 => ⟨S1024x256, .i32⟩
  | 48 => ⟨S1024x256, .i1⟩
  | 49 => ⟨S1024x256, .i1⟩
  | 50 => ⟨S_, .i32⟩
  | 51 => ⟨S1024x256, .i32⟩
  | 52 => ⟨S1024x256, .i32⟩
  | 53 => ⟨S1024x256, .i32⟩
  | 54 => ⟨S1024x256, .i32⟩
  | 55 => ⟨S_, .i32⟩
  | 56 => ⟨S_, .i32⟩
  | 57 => ⟨S1024x256, .i32⟩
  | 58 => ⟨S1024x256, .i32⟩
  | 59 => ⟨S1024x256, .i32⟩
  | 60 => ⟨S_, .i32⟩
  | 61 => ⟨S1024x256, .i32⟩
  | 62 => ⟨S1024x256, .i1⟩
  | 63 => ⟨S1024x256, .i32⟩
  | 64 => ⟨S1024x256, .i32⟩
  | 65 => ⟨S_, .i32⟩
  | 66 => ⟨S1024x256, .i32⟩
  | 67 => ⟨S1024x256, .i1⟩
  | 68 => ⟨S1024x256, .i1⟩
  | 69 => ⟨S_, .i32⟩
  | 70 => ⟨S1024x256, .i32⟩
  | 71 => ⟨S1024x256, .i32⟩
  | 72 => ⟨S1024x256, .i32⟩
  | 73 => ⟨S1024x256, .i1⟩
  | 74 => ⟨S_, .bf16⟩
  | 75 => ⟨S1024x256, .bf16⟩
  | 76 => ⟨S1024x256, .bf16⟩
  | 77 => ⟨S16x64x16, .f32⟩
  | 78 => ⟨S16x64x16, .bf16⟩
  | 79 => ⟨S1024x16, .bf16⟩
  | 80 => ⟨S1x1024x1x16, .bf16⟩
  | 81 => ⟨S1x1024x16x16, .bf16⟩
  | 82 => ⟨S1024x256, .bf16⟩
  | 83 => ⟨S1024x256, .i32⟩
  | 84 => ⟨S_, .i32⟩
  | 85 => ⟨S_, .i32⟩
  | 86 => ⟨S1024x256, .i32⟩
  | 87 => ⟨S1024x256, .i32⟩
  | 88 => ⟨S1024x256, .i32⟩
  | 89 => ⟨S_, .i32⟩
  | 90 => ⟨S1024x256, .i32⟩
  | 91 => ⟨S1024x256, .i1⟩
  | 92 => ⟨S1024x256, .i32⟩
  | 93 => ⟨S1024x256, .i32⟩
  | 94 => ⟨S_, .i32⟩
  | 95 => ⟨S1024x256, .i32⟩
  | 96 => ⟨S1024x256, .i1⟩
  | 97 => ⟨S1024x256, .i1⟩
  | 98 => ⟨S_, .i32⟩
  | 99 => ⟨S1024x256, .i32⟩
  | 100 => ⟨S1024x256, .i32⟩
  | 101 => ⟨S1024x256, .i32⟩
  | 102 => ⟨S1024x256, .i32⟩
  | 103 => ⟨S_, .i32⟩
  | 104 => ⟨S_, .i32⟩
  | 105 => ⟨S1024x256, .i32⟩
  | 106 => ⟨S1024x256, .i32⟩
  | 107 => ⟨S1024x256, .i32⟩
  | 108 => ⟨S_, .i32⟩
  | 109 => ⟨S1024x256, .i32⟩
  | 110 => ⟨S1024x256, .i1⟩
  | 111 => ⟨S1024x256, .i32⟩
  | 112 => ⟨S1024x256, .i32⟩
  | 113 => ⟨S_, .i32⟩
  | 114 => ⟨S1024x256, .i32⟩
  | 115 => ⟨S1024x256, .i1⟩
  | 116 => ⟨S1024x256, .i1⟩
  | 117 => ⟨S_, .i32⟩
  | 118 => ⟨S1024x256, .i32⟩
  | 119 => ⟨S1024x256, .i32⟩
  | 120 => ⟨S1024x256, .i32⟩
  | 121 => ⟨S1024x256, .i1⟩
  | 122 => ⟨S_, .bf16⟩
  | 123 => ⟨S1024x256, .bf16⟩
  | 124 => ⟨S1024x256, .bf16⟩
  | 125 => ⟨S2048x256, .bf16⟩
  | 126 => ⟨S16x64x16, .f32⟩
  | 127 => ⟨S16x64x16, .bf16⟩
  | _ => ⟨S128x4x1024, .f32⟩

abbrev hbmTy0_3 (i : Nat) : BufTy := match i % 128 with
  | 0 => ⟨S1024x16, .bf16⟩
  | 1 => ⟨S1x1024x1x16, .bf16⟩
  | 2 => ⟨S1x1024x16x16, .bf16⟩
  | 3 => ⟨S1024x256, .bf16⟩
  | 4 => ⟨S1024x256, .i32⟩
  | 5 => ⟨S_, .i32⟩
  | 6 => ⟨S_, .i32⟩
  | 7 => ⟨S1024x256, .i32⟩
  | 8 => ⟨S1024x256, .i32⟩
  | 9 => ⟨S1024x256, .i32⟩
  | 10 => ⟨S_, .i32⟩
  | 11 => ⟨S1024x256, .i32⟩
  | 12 => ⟨S1024x256, .i1⟩
  | 13 => ⟨S1024x256, .i32⟩
  | 14 => ⟨S1024x256, .i32⟩
  | 15 => ⟨S_, .i32⟩
  | 16 => ⟨S1024x256, .i32⟩
  | 17 => ⟨S1024x256, .i1⟩
  | 18 => ⟨S1024x256, .i1⟩
  | 19 => ⟨S_, .i32⟩
  | 20 => ⟨S1024x256, .i32⟩
  | 21 => ⟨S1024x256, .i32⟩
  | 22 => ⟨S1024x256, .i32⟩
  | 23 => ⟨S1024x256, .i32⟩
  | 24 => ⟨S_, .i32⟩
  | 25 => ⟨S_, .i32⟩
  | 26 => ⟨S1024x256, .i32⟩
  | 27 => ⟨S1024x256, .i32⟩
  | 28 => ⟨S1024x256, .i32⟩
  | 29 => ⟨S_, .i32⟩
  | 30 => ⟨S1024x256, .i32⟩
  | 31 => ⟨S1024x256, .i1⟩
  | 32 => ⟨S1024x256, .i32⟩
  | 33 => ⟨S1024x256, .i32⟩
  | 34 => ⟨S_, .i32⟩
  | 35 => ⟨S1024x256, .i32⟩
  | 36 => ⟨S1024x256, .i1⟩
  | 37 => ⟨S1024x256, .i1⟩
  | 38 => ⟨S_, .i32⟩
  | 39 => ⟨S1024x256, .i32⟩
  | 40 => ⟨S1024x256, .i32⟩
  | 41 => ⟨S1024x256, .i32⟩
  | 42 => ⟨S1024x256, .i1⟩
  | 43 => ⟨S_, .bf16⟩
  | 44 => ⟨S1024x256, .bf16⟩
  | 45 => ⟨S1024x256, .bf16⟩
  | 46 => ⟨S16x64x16, .f32⟩
  | 47 => ⟨S16x64x16, .bf16⟩
  | 48 => ⟨S1024x16, .bf16⟩
  | 49 => ⟨S1x1024x1x16, .bf16⟩
  | 50 => ⟨S1x1024x16x16, .bf16⟩
  | 51 => ⟨S1024x256, .bf16⟩
  | 52 => ⟨S1024x256, .i32⟩
  | 53 => ⟨S_, .i32⟩
  | 54 => ⟨S_, .i32⟩
  | 55 => ⟨S1024x256, .i32⟩
  | 56 => ⟨S1024x256, .i32⟩
  | 57 => ⟨S1024x256, .i32⟩
  | 58 => ⟨S_, .i32⟩
  | 59 => ⟨S1024x256, .i32⟩
  | 60 => ⟨S1024x256, .i1⟩
  | 61 => ⟨S1024x256, .i32⟩
  | 62 => ⟨S1024x256, .i32⟩
  | 63 => ⟨S_, .i32⟩
  | 64 => ⟨S1024x256, .i32⟩
  | 65 => ⟨S1024x256, .i1⟩
  | 66 => ⟨S1024x256, .i1⟩
  | 67 => ⟨S_, .i32⟩
  | 68 => ⟨S1024x256, .i32⟩
  | 69 => ⟨S1024x256, .i32⟩
  | 70 => ⟨S1024x256, .i32⟩
  | 71 => ⟨S1024x256, .i32⟩
  | 72 => ⟨S_, .i32⟩
  | 73 => ⟨S_, .i32⟩
  | 74 => ⟨S1024x256, .i32⟩
  | 75 => ⟨S1024x256, .i32⟩
  | 76 => ⟨S1024x256, .i32⟩
  | 77 => ⟨S_, .i32⟩
  | 78 => ⟨S1024x256, .i32⟩
  | 79 => ⟨S1024x256, .i1⟩
  | 80 => ⟨S1024x256, .i32⟩
  | 81 => ⟨S1024x256, .i32⟩
  | 82 => ⟨S_, .i32⟩
  | 83 => ⟨S1024x256, .i32⟩
  | 84 => ⟨S1024x256, .i1⟩
  | 85 => ⟨S1024x256, .i1⟩
  | 86 => ⟨S_, .i32⟩
  | 87 => ⟨S1024x256, .i32⟩
  | 88 => ⟨S1024x256, .i32⟩
  | 89 => ⟨S1024x256, .i32⟩
  | 90 => ⟨S1024x256, .i1⟩
  | 91 => ⟨S_, .bf16⟩
  | 92 => ⟨S1024x256, .bf16⟩
  | 93 => ⟨S1024x256, .bf16⟩
  | 94 => ⟨S2048x256, .bf16⟩
  | 95 => ⟨S1x2048x256, .bf16⟩
  | 96 => ⟨S1x2048x256, .bf16⟩
  | 97 => ⟨S2x2048x256, .bf16⟩
  | 98 => ⟨S1x1024, .f32⟩
  | 99 => ⟨S1x256, .f32⟩
  | 100 => ⟨S1x2048, .f32⟩
  | 101 => ⟨S1x2048, .f32⟩
  | 102 => ⟨S1x512, .f32⟩
  | 103 => ⟨S_, .f32⟩
  | 104 => ⟨S512x512, .f32⟩
  | 105 => ⟨S512x512, .f32⟩
  | 106 => ⟨S512x512, .bf16⟩
  | 107 => ⟨S1x128, .f32⟩
  | 108 => ⟨S4x128, .f32⟩
  | 109 => ⟨S512, .f32⟩
  | 110 => ⟨S1x512, .f32⟩
  | 111 => ⟨S512x1024, .bf16⟩
  | 112 => ⟨S512x1024, .bf16⟩
  | 113 => ⟨S1024x1024, .bf16⟩
  | 114 => ⟨S128x2048, .f32⟩
  | 115 => ⟨S128x2048, .f32⟩
  | 116 => ⟨S512x64x128, .f32⟩
  | 117 => ⟨S1024x256, .i32⟩
  | 118 => ⟨S1024x256, .i32⟩
  | 119 => ⟨S_, .i32⟩
  | 120 => ⟨S1024x256, .i32⟩
  | 121 => ⟨S1024x256, .i32⟩
  | 122 => ⟨S_, .i32⟩
  | 123 => ⟨S1024x256, .i32⟩
  | 124 => ⟨S1024x256, .i32⟩
  | 125 => ⟨S1024x256, .i1⟩
  | 126 => ⟨S_, .i32⟩
  | 127 => ⟨S1024x256, .i32⟩
  | _ => ⟨S128x4x1024, .f32⟩

abbrev hbmTy0_4 (i : Nat) : BufTy := match i % 128 with
  | 0 => ⟨S1024x256, .i32⟩
  | 1 => ⟨S_, .i32⟩
  | 2 => ⟨S1024x256, .i32⟩
  | 3 => ⟨S1024x256, .i32⟩
  | 4 => ⟨S_, .i32⟩
  | 5 => ⟨S1024x256, .i32⟩
  | 6 => ⟨S1024x256, .i32⟩
  | 7 => ⟨S1024x256, .i1⟩
  | 8 => ⟨S1024x256, .i1⟩
  | 9 => ⟨S1024x256, .bf16⟩
  | 10 => ⟨S128x4x1024, .f32⟩
  | 11 => ⟨S128x2048, .f32⟩
  | 12 => ⟨S128x2048, .f32⟩
  | 13 => ⟨S512x64x128, .f32⟩
  | _ => ⟨S128x4x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S128x4x1024, .f32⟩

abbrev bufTy : (tb : Table) → Fin (tcTables nBuf tb) → BufTy
  | .hbm, ⟨i, _⟩ => hbmTy i
  | .local _ .vmem, ⟨0, _⟩ => ⟨S32x4x1024, .f32⟩
  | .local _ .vmem, ⟨1, _⟩ => ⟨S32x4x1024, .f32⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S32x2048, .f32⟩
  | .local _ .vmem, ⟨6, _⟩ => ⟨S128x64x128, .f32⟩
  | .local _ .vmem, ⟨7, _⟩ => ⟨S128x64x128, .f32⟩
  | .local _ .vmem, ⟨8, _⟩ => ⟨S1x1024, .f32⟩
  | .local _ .vmem, ⟨9, _⟩ => ⟨S4112x1024, .bf16⟩
  | .local _ .vmem, ⟨10, _⟩ => ⟨S128x256, .bf16⟩
  | .local _ .vmem, ⟨11, _⟩ => ⟨S1x256, .f32⟩
  | .local _ .vmem, ⟨12, _⟩ => ⟨S4x256x1024, .bf16⟩
  | .local _ .vmem, ⟨13, _⟩ => ⟨S2x2048x256, .bf16⟩
  | .local _ .vmem, ⟨14, _⟩ => ⟨S1x2048, .f32⟩
  | .local _ .vmem, ⟨15, _⟩ => ⟨S1x2048, .f32⟩
  | .local _ .vmem, ⟨16, _⟩ => ⟨S1x512, .f32⟩
  | .local _ .vmem, ⟨17, _⟩ => ⟨S128x256, .bf16⟩
  | .local _ .vmem, ⟨18, _⟩ => ⟨S256x128, .bf16⟩
  | .local _ .vmem, ⟨19, _⟩ => ⟨S128x256, .bf16⟩
  | .local _ .vmem, ⟨20, _⟩ => ⟨S128x256, .bf16⟩
  | .local _ .vmem, ⟨21, _⟩ => ⟨S1x128x256, .bf16⟩
  | .local _ .vmem, ⟨22, _⟩ => ⟨S1024x256, .bf16⟩
  | .local _ .vmem, ⟨23, _⟩ => ⟨S512x512, .bf16⟩
  | .local _ .vmem, ⟨24, _⟩ => ⟨S1x512, .f32⟩
  | .local _ .vmem, ⟨25, _⟩ => ⟨S512x1024, .bf16⟩
  | .local _ .vmem, ⟨26, _⟩ => ⟨S512x1024, .bf16⟩
  | .local _ .vmem, ⟨27, _⟩ => ⟨S1024x1024, .bf16⟩
  | .local _ .vmem, ⟨28, _⟩ => ⟨S32x4x1024, .f32⟩
  | .local _ .vmem, ⟨29, _⟩ => ⟨S32x4x1024, .f32⟩
  | .local _ .vmem, ⟨30, _⟩ => ⟨S32x2048, .f32⟩
  | .local _ .vmem, ⟨31, _⟩ => ⟨S32x2048, .f32⟩
  | .local _ .vmem, ⟨32, _⟩ => ⟨S32x2048, .f32⟩
  | .local _ .vmem, ⟨33, _⟩ => ⟨S32x2048, .f32⟩
  | .local _ .vmem, ⟨34, _⟩ => ⟨S128x64x128, .f32⟩
  | .local _ .vmem, ⟨35, _⟩ => ⟨S128x64x128, .f32⟩
  | .local _ .vmem, ⟨36, _⟩ => ⟨S256x512, .f32⟩
  | .local _ .vmem, ⟨37, _⟩ => ⟨S128x4096, .f32⟩
  | .local _ .vmem, ⟨38, _⟩ => ⟨S32x2048, .f32⟩
  | .local _ .vmem, ⟨39, _⟩ => ⟨S32x2048, .f32⟩
  | .local _ .vmem, ⟨40, _⟩ => ⟨S128x64x128, .f32⟩
  | .local _ .vmem, ⟨41, _⟩ => ⟨S256x256, .f32⟩
  | .local _ .vmem, ⟨42, _⟩ => ⟨S256x256, .f32⟩
  | .local _ .vmem, ⟨43, _⟩ => ⟨S256x256, .f32⟩
  | .local _ .vmem, ⟨44, _⟩ => ⟨S256x512, .f32⟩
  | .local _ .vmem, ⟨45, _⟩ => ⟨S256x512, .f32⟩
  | .local _ .vmem, ⟨46, _⟩ => ⟨S256x512, .f32⟩
  | .local _ .vmem, ⟨47, _⟩ => ⟨S256x1024, .f32⟩
  | .local _ .vmem, ⟨48, _⟩ => ⟨S256x1024, .f32⟩
  | .local _ .vmem, ⟨49, _⟩ => ⟨S256x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_cst_1 : Ref sig .tc := ⟨.hbm, 24, rfl⟩
abbrev main_cst_2 : Ref sig .tc := ⟨.hbm, 25, rfl⟩
abbrev main_cst_3 : Ref sig .tc := ⟨.hbm, 26, rfl⟩
abbrev main_cst_4 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_c : Ref sig .tc := ⟨.hbm, 32, rfl⟩
abbrev main_call0_v0 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_cst_5 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_7 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_c_8 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_c : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_c_0 : Ref sig .tc := ⟨.hbm, 106, rfl⟩
abbrev main_call1_v12 : Ref sig .tc := ⟨.hbm, 107, rfl⟩
abbrev main_call1_v13 : Ref sig .tc := ⟨.hbm, 108, rfl⟩
abbrev main_v60 : Ref sig .tc := ⟨.hbm, 109, rfl⟩
abbrev main_v61 : Ref sig .tc := ⟨.hbm, 110, rfl⟩
abbrev main_c_9 : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_c : Ref sig .tc := ⟨.hbm, 121, rfl⟩
abbrev main_call2_v9 : Ref sig .tc := ⟨.hbm, 122, rfl⟩
abbrev main_call2_v10 : Ref sig .tc := ⟨.hbm, 123, rfl⟩
abbrev main_call2_v11 : Ref sig .tc := ⟨.hbm, 124, rfl⟩
abbrev main_call2_c_0 : Ref sig .tc := ⟨.hbm, 125, rfl⟩
abbrev main_call2_v12 : Ref sig .tc := ⟨.hbm, 126, rfl⟩
abbrev main_call2_v13 : Ref sig .tc := ⟨.hbm, 127, rfl⟩
abbrev main_v62 : Ref sig .tc := ⟨.hbm, 128, rfl⟩
abbrev main_v63 : Ref sig .tc := ⟨.hbm, 129, rfl⟩
abbrev main_cst_10 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_c_11 : Ref sig .tc := ⟨.hbm, 140, rfl⟩
abbrev main_call4_v0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_v6 : Ref sig .tc := ⟨.hbm, 147, rfl⟩
abbrev main_call4_v7 : Ref sig .tc := ⟨.hbm, 148, rfl⟩
abbrev main_call4_v8 : Ref sig .tc := ⟨.hbm, 149, rfl⟩
abbrev main_call4_c : Ref sig .tc := ⟨.hbm, 150, rfl⟩
abbrev main_call4_v9 : Ref sig .tc := ⟨.hbm, 151, rfl⟩
abbrev main_call4_v10 : Ref sig .tc := ⟨.hbm, 152, rfl⟩
abbrev main_call4_v11 : Ref sig .tc := ⟨.hbm, 153, rfl⟩
abbrev main_call4_c_0 : Ref sig .tc := ⟨.hbm, 154, rfl⟩
abbrev main_call4_v12 : Ref sig .tc := ⟨.hbm, 155, rfl⟩
abbrev main_call4_v13 : Ref sig .tc := ⟨.hbm, 156, rfl⟩
abbrev main_v73 : Ref sig .tc := ⟨.hbm, 157, rfl⟩
abbrev main_v74 : Ref sig .tc := ⟨.hbm, 158, rfl⟩
abbrev main_c_12 : Ref sig .tc := ⟨.hbm, 159, rfl⟩
abbrev main_call5_v0 : Ref sig .tc := ⟨.hbm, 160, rfl⟩
abbrev main_call5_v1 : Ref sig .tc := ⟨.hbm, 161, rfl⟩
abbrev main_call5_v2 : Ref sig .tc := ⟨.hbm, 162, rfl⟩
abbrev main_call5_v3 : Ref sig .tc := ⟨.hbm, 163, rfl⟩
abbrev main_call5_v4 : Ref sig .tc := ⟨.hbm, 164, rfl⟩
abbrev main_call5_v5 : Ref sig .tc := ⟨.hbm, 165, rfl⟩
abbrev main_call5_v6 : Ref sig .tc := ⟨.hbm, 166, rfl⟩
abbrev main_call5_v7 : Ref sig .tc := ⟨.hbm, 167, rfl⟩
abbrev main_call5_v8 : Ref sig .tc := ⟨.hbm, 168, rfl⟩
abbrev main_call5_c : Ref sig .tc := ⟨.hbm, 169, rfl⟩
abbrev main_call5_v9 : Ref sig .tc := ⟨.hbm, 170, rfl⟩
abbrev main_call5_v10 : Ref sig .tc := ⟨.hbm, 171, rfl⟩
abbrev main_call5_v11 : Ref sig .tc := ⟨.hbm, 172, rfl⟩
abbrev main_call5_c_0 : Ref sig .tc := ⟨.hbm, 173, rfl⟩
abbrev main_call5_v12 : Ref sig .tc := ⟨.hbm, 174, rfl⟩
abbrev main_call5_v13 : Ref sig .tc := ⟨.hbm, 175, rfl⟩
abbrev main_v75 : Ref sig .tc := ⟨.hbm, 176, rfl⟩
abbrev main_v76 : Ref sig .tc := ⟨.hbm, 177, rfl⟩
abbrev main_cst_13 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_v84 : Ref sig .tc := ⟨.hbm, 186, rfl⟩
abbrev main_v85 : Ref sig .tc := ⟨.hbm, 187, rfl⟩
abbrev main_c_14 : Ref sig .tc := ⟨.hbm, 188, rfl⟩
abbrev main_call7_v0 : Ref sig .tc := ⟨.hbm, 189, rfl⟩
abbrev main_call7_v1 : Ref sig .tc := ⟨.hbm, 190, rfl⟩
abbrev main_call7_v2 : Ref sig .tc := ⟨.hbm, 191, rfl⟩
abbrev main_call7_v3 : Ref sig .tc := ⟨.hbm, 192, rfl⟩
abbrev main_call7_v4 : Ref sig .tc := ⟨.hbm, 193, rfl⟩
abbrev main_call7_v5 : Ref sig .tc := ⟨.hbm, 194, rfl⟩
abbrev main_call7_v6 : Ref sig .tc := ⟨.hbm, 195, rfl⟩
abbrev main_call7_v7 : Ref sig .tc := ⟨.hbm, 196, rfl⟩
abbrev main_call7_v8 : Ref sig .tc := ⟨.hbm, 197, rfl⟩
abbrev main_call7_c : Ref sig .tc := ⟨.hbm, 198, rfl⟩
abbrev main_call7_v9 : Ref sig .tc := ⟨.hbm, 199, rfl⟩
abbrev main_call7_v10 : Ref sig .tc := ⟨.hbm, 200, rfl⟩
abbrev main_call7_v11 : Ref sig .tc := ⟨.hbm, 201, rfl⟩
abbrev main_call7_c_0 : Ref sig .tc := ⟨.hbm, 202, rfl⟩
abbrev main_call7_v12 : Ref sig .tc := ⟨.hbm, 203, rfl⟩
abbrev main_call7_v13 : Ref sig .tc := ⟨.hbm, 204, rfl⟩
abbrev main_v86 : Ref sig .tc := ⟨.hbm, 205, rfl⟩
abbrev main_v87 : Ref sig .tc := ⟨.hbm, 206, rfl⟩
abbrev main_c_15 : Ref sig .tc := ⟨.hbm, 207, rfl⟩
abbrev main_call8_v0 : Ref sig .tc := ⟨.hbm, 208, rfl⟩
abbrev main_call8_v1 : Ref sig .tc := ⟨.hbm, 209, rfl⟩
abbrev main_call8_v2 : Ref sig .tc := ⟨.hbm, 210, rfl⟩
abbrev main_call8_v3 : Ref sig .tc := ⟨.hbm, 211, rfl⟩
abbrev main_call8_v4 : Ref sig .tc := ⟨.hbm, 212, rfl⟩
abbrev main_call8_v5 : Ref sig .tc := ⟨.hbm, 213, rfl⟩
abbrev main_call8_v6 : Ref sig .tc := ⟨.hbm, 214, rfl⟩
abbrev main_call8_v7 : Ref sig .tc := ⟨.hbm, 215, rfl⟩
abbrev main_call8_v8 : Ref sig .tc := ⟨.hbm, 216, rfl⟩
abbrev main_call8_c : Ref sig .tc := ⟨.hbm, 217, rfl⟩
abbrev main_call8_v9 : Ref sig .tc := ⟨.hbm, 218, rfl⟩
abbrev main_call8_v10 : Ref sig .tc := ⟨.hbm, 219, rfl⟩
abbrev main_call8_v11 : Ref sig .tc := ⟨.hbm, 220, rfl⟩
abbrev main_call8_c_0 : Ref sig .tc := ⟨.hbm, 221, rfl⟩
abbrev main_call8_v12 : Ref sig .tc := ⟨.hbm, 222, rfl⟩
abbrev main_call8_v13 : Ref sig .tc := ⟨.hbm, 223, rfl⟩
abbrev main_v88 : Ref sig .tc := ⟨.hbm, 224, rfl⟩
abbrev main_v89 : Ref sig .tc := ⟨.hbm, 225, rfl⟩
abbrev main_cst_16 : Ref sig .tc := ⟨.hbm, 226, rfl⟩
abbrev main_v90 : Ref sig .tc := ⟨.hbm, 227, rfl⟩
abbrev main_v91 : Ref sig .tc := ⟨.hbm, 228, rfl⟩
abbrev main_v92 : Ref sig .tc := ⟨.hbm, 229, rfl⟩
abbrev main_v93 : Ref sig .tc := ⟨.hbm, 230, rfl⟩
abbrev main_v94 : Ref sig .tc := ⟨.hbm, 231, rfl⟩
abbrev main_v95 : Ref sig .tc := ⟨.hbm, 232, rfl⟩
abbrev main_v96 : Ref sig .tc := ⟨.hbm, 233, rfl⟩
abbrev main_v97 : Ref sig .tc := ⟨.hbm, 234, rfl⟩
abbrev main_v98 : Ref sig .tc := ⟨.hbm, 235, rfl⟩
abbrev main_c_17 : Ref sig .tc := ⟨.hbm, 236, rfl⟩
abbrev main_call10_v0 : Ref sig .tc := ⟨.hbm, 237, rfl⟩
abbrev main_call10_v1 : Ref sig .tc := ⟨.hbm, 238, rfl⟩
abbrev main_call10_v2 : Ref sig .tc := ⟨.hbm, 239, rfl⟩
abbrev main_call10_v3 : Ref sig .tc := ⟨.hbm, 240, rfl⟩
abbrev main_call10_v4 : Ref sig .tc := ⟨.hbm, 241, rfl⟩
abbrev main_call10_v5 : Ref sig .tc := ⟨.hbm, 242, rfl⟩
abbrev main_call10_v6 : Ref sig .tc := ⟨.hbm, 243, rfl⟩
abbrev main_call10_v7 : Ref sig .tc := ⟨.hbm, 244, rfl⟩
abbrev main_call10_v8 : Ref sig .tc := ⟨.hbm, 245, rfl⟩
abbrev main_call10_c : Ref sig .tc := ⟨.hbm, 246, rfl⟩
abbrev main_call10_v9 : Ref sig .tc := ⟨.hbm, 247, rfl⟩
abbrev main_call10_v10 : Ref sig .tc := ⟨.hbm, 248, rfl⟩
abbrev main_call10_v11 : Ref sig .tc := ⟨.hbm, 249, rfl⟩
abbrev main_call10_c_0 : Ref sig .tc := ⟨.hbm, 250, rfl⟩
abbrev main_call10_v12 : Ref sig .tc := ⟨.hbm, 251, rfl⟩
abbrev main_call10_v13 : Ref sig .tc := ⟨.hbm, 252, rfl⟩
abbrev main_v99 : Ref sig .tc := ⟨.hbm, 253, rfl⟩
abbrev main_v100 : Ref sig .tc := ⟨.hbm, 254, rfl⟩
abbrev main_c_18 : Ref sig .tc := ⟨.hbm, 255, rfl⟩
abbrev main_call11_v0 : Ref sig .tc := ⟨.hbm, 256, rfl⟩
abbrev main_call11_v1 : Ref sig .tc := ⟨.hbm, 257, rfl⟩
abbrev main_call11_v2 : Ref sig .tc := ⟨.hbm, 258, rfl⟩
abbrev main_call11_v3 : Ref sig .tc := ⟨.hbm, 259, rfl⟩
abbrev main_call11_v4 : Ref sig .tc := ⟨.hbm, 260, rfl⟩
abbrev main_call11_v5 : Ref sig .tc := ⟨.hbm, 261, rfl⟩
abbrev main_call11_v6 : Ref sig .tc := ⟨.hbm, 262, rfl⟩
abbrev main_call11_v7 : Ref sig .tc := ⟨.hbm, 263, rfl⟩
abbrev main_call11_v8 : Ref sig .tc := ⟨.hbm, 264, rfl⟩
abbrev main_call11_c : Ref sig .tc := ⟨.hbm, 265, rfl⟩
abbrev main_call11_v9 : Ref sig .tc := ⟨.hbm, 266, rfl⟩
abbrev main_call11_v10 : Ref sig .tc := ⟨.hbm, 267, rfl⟩
abbrev main_call11_v11 : Ref sig .tc := ⟨.hbm, 268, rfl⟩
abbrev main_call11_c_0 : Ref sig .tc := ⟨.hbm, 269, rfl⟩
abbrev main_call11_v12 : Ref sig .tc := ⟨.hbm, 270, rfl⟩
abbrev main_call11_v13 : Ref sig .tc := ⟨.hbm, 271, rfl⟩
abbrev main_v101 : Ref sig .tc := ⟨.hbm, 272, rfl⟩
abbrev main_v102 : Ref sig .tc := ⟨.hbm, 273, rfl⟩
abbrev main_cst_19 : Ref sig .tc := ⟨.hbm, 274, rfl⟩
abbrev main_v103 : Ref sig .tc := ⟨.hbm, 275, rfl⟩
abbrev main_v104 : Ref sig .tc := ⟨.hbm, 276, rfl⟩
abbrev main_v105 : Ref sig .tc := ⟨.hbm, 277, rfl⟩
abbrev main_v106 : Ref sig .tc := ⟨.hbm, 278, rfl⟩
abbrev main_v107 : Ref sig .tc := ⟨.hbm, 279, rfl⟩
abbrev main_v108 : Ref sig .tc := ⟨.hbm, 280, rfl⟩
abbrev main_v109 : Ref sig .tc := ⟨.hbm, 281, rfl⟩
abbrev main_v110 : Ref sig .tc := ⟨.hbm, 282, rfl⟩
abbrev main_v111 : Ref sig .tc := ⟨.hbm, 283, rfl⟩
abbrev main_v112 : Ref sig .tc := ⟨.hbm, 284, rfl⟩
abbrev main_v113 : Ref sig .tc := ⟨.hbm, 285, rfl⟩
abbrev main_v114 : Ref sig .tc := ⟨.hbm, 286, rfl⟩
abbrev main_v115 : Ref sig .tc := ⟨.hbm, 287, rfl⟩
abbrev main_v116 : Ref sig .tc := ⟨.hbm, 288, rfl⟩
abbrev main_v117 : Ref sig .tc := ⟨.hbm, 289, rfl⟩
abbrev main_v118 : Ref sig .tc := ⟨.hbm, 290, rfl⟩
abbrev main_v119 : Ref sig .tc := ⟨.hbm, 291, rfl⟩
abbrev main_c_20 : Ref sig .tc := ⟨.hbm, 292, rfl⟩
abbrev main_call13_v0 : Ref sig .tc := ⟨.hbm, 293, rfl⟩
abbrev main_call13_v1 : Ref sig .tc := ⟨.hbm, 294, rfl⟩
abbrev main_call13_v2 : Ref sig .tc := ⟨.hbm, 295, rfl⟩
abbrev main_call13_v3 : Ref sig .tc := ⟨.hbm, 296, rfl⟩
abbrev main_call13_v4 : Ref sig .tc := ⟨.hbm, 297, rfl⟩
abbrev main_call13_v5 : Ref sig .tc := ⟨.hbm, 298, rfl⟩
abbrev main_call13_v6 : Ref sig .tc := ⟨.hbm, 299, rfl⟩
abbrev main_call13_v7 : Ref sig .tc := ⟨.hbm, 300, rfl⟩
abbrev main_call13_v8 : Ref sig .tc := ⟨.hbm, 301, rfl⟩
abbrev main_call13_c : Ref sig .tc := ⟨.hbm, 302, rfl⟩
abbrev main_call13_v9 : Ref sig .tc := ⟨.hbm, 303, rfl⟩
abbrev main_call13_v10 : Ref sig .tc := ⟨.hbm, 304, rfl⟩
abbrev main_call13_v11 : Ref sig .tc := ⟨.hbm, 305, rfl⟩
abbrev main_call13_c_0 : Ref sig .tc := ⟨.hbm, 306, rfl⟩
abbrev main_call13_v12 : Ref sig .tc := ⟨.hbm, 307, rfl⟩
abbrev main_call13_v13 : Ref sig .tc := ⟨.hbm, 308, rfl⟩
abbrev main_v120 : Ref sig .tc := ⟨.hbm, 309, rfl⟩
abbrev main_v121 : Ref sig .tc := ⟨.hbm, 310, rfl⟩
abbrev main_c_21 : Ref sig .tc := ⟨.hbm, 311, rfl⟩
abbrev main_call14_v0 : Ref sig .tc := ⟨.hbm, 312, rfl⟩
abbrev main_call14_v1 : Ref sig .tc := ⟨.hbm, 313, rfl⟩
abbrev main_call14_v2 : Ref sig .tc := ⟨.hbm, 314, rfl⟩
abbrev main_call14_v3 : Ref sig .tc := ⟨.hbm, 315, rfl⟩
abbrev main_call14_v4 : Ref sig .tc := ⟨.hbm, 316, rfl⟩
abbrev main_call14_v5 : Ref sig .tc := ⟨.hbm, 317, rfl⟩
abbrev main_call14_v6 : Ref sig .tc := ⟨.hbm, 318, rfl⟩
abbrev main_call14_v7 : Ref sig .tc := ⟨.hbm, 319, rfl⟩
abbrev main_call14_v8 : Ref sig .tc := ⟨.hbm, 320, rfl⟩
abbrev main_call14_c : Ref sig .tc := ⟨.hbm, 321, rfl⟩
abbrev main_call14_v9 : Ref sig .tc := ⟨.hbm, 322, rfl⟩
abbrev main_call14_v10 : Ref sig .tc := ⟨.hbm, 323, rfl⟩
abbrev main_call14_v11 : Ref sig .tc := ⟨.hbm, 324, rfl⟩
abbrev main_call14_c_0 : Ref sig .tc := ⟨.hbm, 325, rfl⟩
abbrev main_call14_v12 : Ref sig .tc := ⟨.hbm, 326, rfl⟩
abbrev main_call14_v13 : Ref sig .tc := ⟨.hbm, 327, rfl⟩
abbrev main_v122 : Ref sig .tc := ⟨.hbm, 328, rfl⟩
abbrev main_v123 : Ref sig .tc := ⟨.hbm, 329, rfl⟩
abbrev main_cst_22 : Ref sig .tc := ⟨.hbm, 330, rfl⟩
abbrev main_v124 : Ref sig .tc := ⟨.hbm, 331, rfl⟩
abbrev main_v125 : Ref sig .tc := ⟨.hbm, 332, rfl⟩
abbrev main_v126 : Ref sig .tc := ⟨.hbm, 333, rfl⟩
abbrev main_v127 : Ref sig .tc := ⟨.hbm, 334, rfl⟩
abbrev main_v128 : Ref sig .tc := ⟨.hbm, 335, rfl⟩
abbrev main_v129 : Ref sig .tc := ⟨.hbm, 336, rfl⟩
abbrev main_v130 : Ref sig .tc := ⟨.hbm, 337, rfl⟩
abbrev main_v131 : Ref sig .tc := ⟨.hbm, 338, rfl⟩
abbrev main_v132 : Ref sig .tc := ⟨.hbm, 339, rfl⟩
abbrev main_c_23 : Ref sig .tc := ⟨.hbm, 340, rfl⟩
abbrev main_call16_v0 : Ref sig .tc := ⟨.hbm, 341, rfl⟩
abbrev main_call16_v1 : Ref sig .tc := ⟨.hbm, 342, rfl⟩
abbrev main_call16_v2 : Ref sig .tc := ⟨.hbm, 343, rfl⟩
abbrev main_call16_v3 : Ref sig .tc := ⟨.hbm, 344, rfl⟩
abbrev main_call16_v4 : Ref sig .tc := ⟨.hbm, 345, rfl⟩
abbrev main_call16_v5 : Ref sig .tc := ⟨.hbm, 346, rfl⟩
abbrev main_call16_v6 : Ref sig .tc := ⟨.hbm, 347, rfl⟩
abbrev main_call16_v7 : Ref sig .tc := ⟨.hbm, 348, rfl⟩
abbrev main_call16_v8 : Ref sig .tc := ⟨.hbm, 349, rfl⟩
abbrev main_call16_c : Ref sig .tc := ⟨.hbm, 350, rfl⟩
abbrev main_call16_v9 : Ref sig .tc := ⟨.hbm, 351, rfl⟩
abbrev main_call16_v10 : Ref sig .tc := ⟨.hbm, 352, rfl⟩
abbrev main_call16_v11 : Ref sig .tc := ⟨.hbm, 353, rfl⟩
abbrev main_call16_c_0 : Ref sig .tc := ⟨.hbm, 354, rfl⟩
abbrev main_call16_v12 : Ref sig .tc := ⟨.hbm, 355, rfl⟩
abbrev main_call16_v13 : Ref sig .tc := ⟨.hbm, 356, rfl⟩
abbrev main_v133 : Ref sig .tc := ⟨.hbm, 357, rfl⟩
abbrev main_v134 : Ref sig .tc := ⟨.hbm, 358, rfl⟩
abbrev main_c_24 : Ref sig .tc := ⟨.hbm, 359, rfl⟩
abbrev main_call17_v0 : Ref sig .tc := ⟨.hbm, 360, rfl⟩
abbrev main_call17_v1 : Ref sig .tc := ⟨.hbm, 361, rfl⟩
abbrev main_call17_v2 : Ref sig .tc := ⟨.hbm, 362, rfl⟩
abbrev main_call17_v3 : Ref sig .tc := ⟨.hbm, 363, rfl⟩
abbrev main_call17_v4 : Ref sig .tc := ⟨.hbm, 364, rfl⟩
abbrev main_call17_v5 : Ref sig .tc := ⟨.hbm, 365, rfl⟩
abbrev main_call17_v6 : Ref sig .tc := ⟨.hbm, 366, rfl⟩
abbrev main_call17_v7 : Ref sig .tc := ⟨.hbm, 367, rfl⟩
abbrev main_call17_v8 : Ref sig .tc := ⟨.hbm, 368, rfl⟩
abbrev main_call17_c : Ref sig .tc := ⟨.hbm, 369, rfl⟩
abbrev main_call17_v9 : Ref sig .tc := ⟨.hbm, 370, rfl⟩
abbrev main_call17_v10 : Ref sig .tc := ⟨.hbm, 371, rfl⟩
abbrev main_call17_v11 : Ref sig .tc := ⟨.hbm, 372, rfl⟩
abbrev main_call17_c_0 : Ref sig .tc := ⟨.hbm, 373, rfl⟩
abbrev main_call17_v12 : Ref sig .tc := ⟨.hbm, 374, rfl⟩
abbrev main_call17_v13 : Ref sig .tc := ⟨.hbm, 375, rfl⟩
abbrev main_v135 : Ref sig .tc := ⟨.hbm, 376, rfl⟩
abbrev main_v136 : Ref sig .tc := ⟨.hbm, 377, rfl⟩
abbrev main_cst_25 : Ref sig .tc := ⟨.hbm, 378, rfl⟩
abbrev main_v137 : Ref sig .tc := ⟨.hbm, 379, rfl⟩
abbrev main_v138 : Ref sig .tc := ⟨.hbm, 380, rfl⟩
abbrev main_v139 : Ref sig .tc := ⟨.hbm, 381, rfl⟩
abbrev main_v140 : Ref sig .tc := ⟨.hbm, 382, rfl⟩
abbrev main_v141 : Ref sig .tc := ⟨.hbm, 383, rfl⟩
abbrev main_v142 : Ref sig .tc := ⟨.hbm, 384, rfl⟩
abbrev main_v143 : Ref sig .tc := ⟨.hbm, 385, rfl⟩
abbrev main_v144 : Ref sig .tc := ⟨.hbm, 386, rfl⟩
abbrev main_v145 : Ref sig .tc := ⟨.hbm, 387, rfl⟩
abbrev main_v146 : Ref sig .tc := ⟨.hbm, 388, rfl⟩
abbrev main_c_26 : Ref sig .tc := ⟨.hbm, 389, rfl⟩
abbrev main_call19_v0 : Ref sig .tc := ⟨.hbm, 390, rfl⟩
abbrev main_call19_v1 : Ref sig .tc := ⟨.hbm, 391, rfl⟩
abbrev main_call19_v2 : Ref sig .tc := ⟨.hbm, 392, rfl⟩
abbrev main_call19_v3 : Ref sig .tc := ⟨.hbm, 393, rfl⟩
abbrev main_call19_v4 : Ref sig .tc := ⟨.hbm, 394, rfl⟩
abbrev main_call19_v5 : Ref sig .tc := ⟨.hbm, 395, rfl⟩
abbrev main_call19_v6 : Ref sig .tc := ⟨.hbm, 396, rfl⟩
abbrev main_call19_v7 : Ref sig .tc := ⟨.hbm, 397, rfl⟩
abbrev main_call19_v8 : Ref sig .tc := ⟨.hbm, 398, rfl⟩
abbrev main_call19_c : Ref sig .tc := ⟨.hbm, 399, rfl⟩
abbrev main_call19_v9 : Ref sig .tc := ⟨.hbm, 400, rfl⟩
abbrev main_call19_v10 : Ref sig .tc := ⟨.hbm, 401, rfl⟩
abbrev main_call19_v11 : Ref sig .tc := ⟨.hbm, 402, rfl⟩
abbrev main_call19_c_0 : Ref sig .tc := ⟨.hbm, 403, rfl⟩
abbrev main_call19_v12 : Ref sig .tc := ⟨.hbm, 404, rfl⟩
abbrev main_call19_v13 : Ref sig .tc := ⟨.hbm, 405, rfl⟩
abbrev main_v147 : Ref sig .tc := ⟨.hbm, 406, rfl⟩
abbrev main_v148 : Ref sig .tc := ⟨.hbm, 407, rfl⟩
abbrev main_c_27 : Ref sig .tc := ⟨.hbm, 408, rfl⟩
abbrev main_call20_v0 : Ref sig .tc := ⟨.hbm, 409, rfl⟩
abbrev main_call20_v1 : Ref sig .tc := ⟨.hbm, 410, rfl⟩
abbrev main_call20_v2 : Ref sig .tc := ⟨.hbm, 411, rfl⟩
abbrev main_call20_v3 : Ref sig .tc := ⟨.hbm, 412, rfl⟩
abbrev main_call20_v4 : Ref sig .tc := ⟨.hbm, 413, rfl⟩
abbrev main_call20_v5 : Ref sig .tc := ⟨.hbm, 414, rfl⟩
abbrev main_call20_v6 : Ref sig .tc := ⟨.hbm, 415, rfl⟩
abbrev main_call20_v7 : Ref sig .tc := ⟨.hbm, 416, rfl⟩
abbrev main_call20_v8 : Ref sig .tc := ⟨.hbm, 417, rfl⟩
abbrev main_call20_c : Ref sig .tc := ⟨.hbm, 418, rfl⟩
abbrev main_call20_v9 : Ref sig .tc := ⟨.hbm, 419, rfl⟩
abbrev main_call20_v10 : Ref sig .tc := ⟨.hbm, 420, rfl⟩
abbrev main_call20_v11 : Ref sig .tc := ⟨.hbm, 421, rfl⟩
abbrev main_call20_c_0 : Ref sig .tc := ⟨.hbm, 422, rfl⟩
abbrev main_call20_v12 : Ref sig .tc := ⟨.hbm, 423, rfl⟩
abbrev main_call20_v13 : Ref sig .tc := ⟨.hbm, 424, rfl⟩
abbrev main_v149 : Ref sig .tc := ⟨.hbm, 425, rfl⟩
abbrev main_v150 : Ref sig .tc := ⟨.hbm, 426, rfl⟩
abbrev main_cst_28 : Ref sig .tc := ⟨.hbm, 427, rfl⟩
abbrev main_v151 : Ref sig .tc := ⟨.hbm, 428, rfl⟩
abbrev main_v152 : Ref sig .tc := ⟨.hbm, 429, rfl⟩
abbrev main_v153 : Ref sig .tc := ⟨.hbm, 430, rfl⟩
abbrev main_v154 : Ref sig .tc := ⟨.hbm, 431, rfl⟩
abbrev main_v155 : Ref sig .tc := ⟨.hbm, 432, rfl⟩
abbrev main_v156 : Ref sig .tc := ⟨.hbm, 433, rfl⟩
abbrev main_v157 : Ref sig .tc := ⟨.hbm, 434, rfl⟩
abbrev main_v158 : Ref sig .tc := ⟨.hbm, 435, rfl⟩
abbrev main_v159 : Ref sig .tc := ⟨.hbm, 436, rfl⟩
abbrev main_c_29 : Ref sig .tc := ⟨.hbm, 437, rfl⟩
abbrev main_call22_v0 : Ref sig .tc := ⟨.hbm, 438, rfl⟩
abbrev main_call22_v1 : Ref sig .tc := ⟨.hbm, 439, rfl⟩
abbrev main_call22_v2 : Ref sig .tc := ⟨.hbm, 440, rfl⟩
abbrev main_call22_v3 : Ref sig .tc := ⟨.hbm, 441, rfl⟩
abbrev main_call22_v4 : Ref sig .tc := ⟨.hbm, 442, rfl⟩
abbrev main_call22_v5 : Ref sig .tc := ⟨.hbm, 443, rfl⟩
abbrev main_call22_v6 : Ref sig .tc := ⟨.hbm, 444, rfl⟩
abbrev main_call22_v7 : Ref sig .tc := ⟨.hbm, 445, rfl⟩
abbrev main_call22_v8 : Ref sig .tc := ⟨.hbm, 446, rfl⟩
abbrev main_call22_c : Ref sig .tc := ⟨.hbm, 447, rfl⟩
abbrev main_call22_v9 : Ref sig .tc := ⟨.hbm, 448, rfl⟩
abbrev main_call22_v10 : Ref sig .tc := ⟨.hbm, 449, rfl⟩
abbrev main_call22_v11 : Ref sig .tc := ⟨.hbm, 450, rfl⟩
abbrev main_call22_c_0 : Ref sig .tc := ⟨.hbm, 451, rfl⟩
abbrev main_call22_v12 : Ref sig .tc := ⟨.hbm, 452, rfl⟩
abbrev main_call22_v13 : Ref sig .tc := ⟨.hbm, 453, rfl⟩
abbrev main_v160 : Ref sig .tc := ⟨.hbm, 454, rfl⟩
abbrev main_v161 : Ref sig .tc := ⟨.hbm, 455, rfl⟩
abbrev main_c_30 : Ref sig .tc := ⟨.hbm, 456, rfl⟩
abbrev main_call23_v0 : Ref sig .tc := ⟨.hbm, 457, rfl⟩
abbrev main_call23_v1 : Ref sig .tc := ⟨.hbm, 458, rfl⟩
abbrev main_call23_v2 : Ref sig .tc := ⟨.hbm, 459, rfl⟩
abbrev main_call23_v3 : Ref sig .tc := ⟨.hbm, 460, rfl⟩
abbrev main_call23_v4 : Ref sig .tc := ⟨.hbm, 461, rfl⟩
abbrev main_call23_v5 : Ref sig .tc := ⟨.hbm, 462, rfl⟩
abbrev main_call23_v6 : Ref sig .tc := ⟨.hbm, 463, rfl⟩
abbrev main_call23_v7 : Ref sig .tc := ⟨.hbm, 464, rfl⟩
abbrev main_call23_v8 : Ref sig .tc := ⟨.hbm, 465, rfl⟩
abbrev main_call23_c : Ref sig .tc := ⟨.hbm, 466, rfl⟩
abbrev main_call23_v9 : Ref sig .tc := ⟨.hbm, 467, rfl⟩
abbrev main_call23_v10 : Ref sig .tc := ⟨.hbm, 468, rfl⟩
abbrev main_call23_v11 : Ref sig .tc := ⟨.hbm, 469, rfl⟩
abbrev main_call23_c_0 : Ref sig .tc := ⟨.hbm, 470, rfl⟩
abbrev main_call23_v12 : Ref sig .tc := ⟨.hbm, 471, rfl⟩
abbrev main_call23_v13 : Ref sig .tc := ⟨.hbm, 472, rfl⟩
abbrev main_v162 : Ref sig .tc := ⟨.hbm, 473, rfl⟩
abbrev main_v163 : Ref sig .tc := ⟨.hbm, 474, rfl⟩
abbrev main_cst_31 : Ref sig .tc := ⟨.hbm, 475, rfl⟩
abbrev main_v164 : Ref sig .tc := ⟨.hbm, 476, rfl⟩
abbrev main_v165 : Ref sig .tc := ⟨.hbm, 477, rfl⟩
abbrev main_v166 : Ref sig .tc := ⟨.hbm, 478, rfl⟩
abbrev main_v167 : Ref sig .tc := ⟨.hbm, 479, rfl⟩
abbrev main_v168 : Ref sig .tc := ⟨.hbm, 480, rfl⟩
abbrev main_v169 : Ref sig .tc := ⟨.hbm, 481, rfl⟩
abbrev main_v170 : Ref sig .tc := ⟨.hbm, 482, rfl⟩
abbrev main_v171 : Ref sig .tc := ⟨.hbm, 483, rfl⟩
abbrev main_v172 : Ref sig .tc := ⟨.hbm, 484, rfl⟩
abbrev main_v173 : Ref sig .tc := ⟨.hbm, 485, rfl⟩
abbrev main_v174 : Ref sig .tc := ⟨.hbm, 486, rfl⟩
abbrev main_cst_32 : Ref sig .tc := ⟨.hbm, 487, rfl⟩
abbrev main_v175 : Ref sig .tc := ⟨.hbm, 488, rfl⟩
abbrev main_v176 : Ref sig .tc := ⟨.hbm, 489, rfl⟩
abbrev main_v177 : Ref sig .tc := ⟨.hbm, 490, rfl⟩
abbrev main_v178 : Ref sig .tc := ⟨.hbm, 491, rfl⟩
abbrev main_v179 : Ref sig .tc := ⟨.hbm, 492, rfl⟩
abbrev main_v180 : Ref sig .tc := ⟨.hbm, 493, rfl⟩
abbrev main_v181 : Ref sig .tc := ⟨.hbm, 494, rfl⟩
abbrev main_v182 : Ref sig .tc := ⟨.hbm, 495, rfl⟩
abbrev main_v183 : Ref sig .tc := ⟨.hbm, 496, rfl⟩
abbrev main_v184 : Ref sig .tc := ⟨.hbm, 497, rfl⟩
abbrev main_v185 : Ref sig .tc := ⟨.hbm, 498, rfl⟩
abbrev main_v186 : Ref sig .tc := ⟨.hbm, 499, rfl⟩
abbrev main_v187 : Ref sig .tc := ⟨.hbm, 500, rfl⟩
abbrev main_v188 : Ref sig .tc := ⟨.hbm, 501, rfl⟩
abbrev main_v189 : Ref sig .tc := ⟨.hbm, 502, rfl⟩
abbrev main_c_33 : Ref sig .tc := ⟨.hbm, 503, rfl⟩
abbrev main_v190 : Ref sig .tc := ⟨.hbm, 504, rfl⟩
abbrev main_v191 : Ref sig .tc := ⟨.hbm, 505, rfl⟩
abbrev main_c_34 : Ref sig .tc := ⟨.hbm, 506, rfl⟩
abbrev main_v192 : Ref sig .tc := ⟨.hbm, 507, rfl⟩
abbrev main_v193 : Ref sig .tc := ⟨.hbm, 508, rfl⟩
abbrev main_v194 : Ref sig .tc := ⟨.hbm, 509, rfl⟩
abbrev main_c_35 : Ref sig .tc := ⟨.hbm, 510, rfl⟩
abbrev main_v195 : Ref sig .tc := ⟨.hbm, 511, rfl⟩
abbrev main_v196 : Ref sig .tc := ⟨.hbm, 512, rfl⟩
abbrev main_c_36 : Ref sig .tc := ⟨.hbm, 513, rfl⟩
abbrev main_v197 : Ref sig .tc := ⟨.hbm, 514, rfl⟩
abbrev main_v198 : Ref sig .tc := ⟨.hbm, 515, rfl⟩
abbrev main_c_37 : Ref sig .tc := ⟨.hbm, 516, rfl⟩
abbrev main_v199 : Ref sig .tc := ⟨.hbm, 517, rfl⟩
abbrev main_v200 : Ref sig .tc := ⟨.hbm, 518, rfl⟩
abbrev main_v201 : Ref sig .tc := ⟨.hbm, 519, rfl⟩
abbrev main_v202 : Ref sig .tc := ⟨.hbm, 520, rfl⟩
abbrev main_v203 : Ref sig .tc := ⟨.hbm, 521, rfl⟩
abbrev main_v204_0 : Ref sig .tc := ⟨.hbm, 522, rfl⟩
abbrev main_v204_1 : Ref sig .tc := ⟨.hbm, 523, rfl⟩
abbrev main_v204_2 : Ref sig .tc := ⟨.hbm, 524, rfl⟩
abbrev main_v204_3 : Ref sig .tc := ⟨.hbm, 525, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg24_1 : Ref sig .tc := ⟨.vmem, 29, rfl⟩
abbrev cc0_stg25_0 : Ref sig .tc := ⟨.vmem, 30, rfl⟩
abbrev cc0_stg25_1 : Ref sig .tc := ⟨.vmem, 31, rfl⟩
abbrev cc0_stg26_0 : Ref sig .tc := ⟨.vmem, 32, rfl⟩
abbrev cc0_stg26_1 : Ref sig .tc := ⟨.vmem, 33, rfl⟩
abbrev cc0_stg27_0 : Ref sig .tc := ⟨.vmem, 34, rfl⟩
abbrev cc0_stg27_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_scratch6 : Ref sig .tc := ⟨.vmem, 42, rfl⟩
abbrev cc0_scratch7 : Ref sig .tc := ⟨.vmem, 43, rfl⟩
abbrev cc0_scratch8 : Ref sig .tc := ⟨.vmem, 44, rfl⟩
abbrev cc0_scratch9 : Ref sig .tc := ⟨.vmem, 45, rfl⟩
abbrev cc0_scratch10 : Ref sig .tc := ⟨.vmem, 46, rfl⟩
abbrev cc0_scratch11 : Ref sig .tc := ⟨.vmem, 47, rfl⟩
abbrev cc0_scratch12 : Ref sig .tc := ⟨.vmem, 48, rfl⟩
abbrev cc0_scratch13 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem24_1 : DmaSem sig := 29
abbrev cc0_sem25_0 : DmaSem sig := 30
abbrev cc0_sem25_1 : DmaSem sig := 31
abbrev cc0_sem26_0 : DmaSem sig := 32
abbrev cc0_sem26_1 : DmaSem sig := 33
abbrev cc0_sem27_0 : DmaSem sig := 34
abbrev cc0_sem27_1 : DmaSem sig := 35

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_2123 : BitVec 32 := 0#32
  let v5768 : BitVec 1 := Scalar.cmpi .eq arg1 c0_i32_2123
  let v5769 : BitVec 32 := Scalar.extui v5768
  let c0_i32_2124 : BitVec 32 := 0#32
  let v5770 : BitVec 1 := Scalar.cmpi .ne v5769 c0_i32_2124
  v5770

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_27 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x4x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4112x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S2x2048x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S128x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x128x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S1024x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S512x512 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S512x1024 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S512x1024 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1024x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 2 → Memref sig .tc .vmem S32x4x1024 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S32x2048 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, false]

abbrev stage0_26 : Fin 2 → Memref sig .tc .vmem S32x2048 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, false]

abbrev stage0_27 : Fin 2 → Memref sig .tc .vmem S128x64x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, false]
-- ==== KernelIdeal.lean ====
variable {F : FTy → Type} [FloatOps F] [Named F]
def κ : String → Option EReal := fun
  | "log2e" => some (((Real.log 65536)⁻¹ : ℝ) : EReal)
  | _ => none
-- ==== ReferenceIdeal.lean ====
abbrev S128x4x1024 : Shape := ⟨3, ![128, 4, 1024]⟩
abbrev S128x32x64 : Shape := ⟨3, ![128, 32, 64]⟩
abbrev S128x4x64x128 : Shape := ⟨4, ![128, 4, 64, 128]⟩
abbrev S1024 : Shape := ⟨1, ![1024]⟩
abbrev S1024x4112 : Shape := ⟨2, ![1024, 4112]⟩
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S32x16 : Shape := ⟨2, ![32, 16]⟩
abbrev S512x512 : Shape := ⟨2, ![512, 512]⟩
abbrev S16x256 : Shape := ⟨2, ![16, 256]⟩
abbrev S256 : Shape := ⟨1, ![256]⟩
abbrev S128 : Shape := ⟨1, ![128]⟩
abbrev S512x1024 : Shape := ⟨2, ![512, 1024]⟩
abbrev S1024x1024 : Shape := ⟨2, ![1024, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x4112 : Shape := ⟨3, ![128, 4, 4112]⟩
abbrev S128x4x512 : Shape := ⟨3, ![128, 4, 512]⟩
abbrev S128x4x32x16 : Shape := ⟨4, ![128, 4, 32, 16]⟩
abbrev S128x4x256 : Shape := ⟨3, ![128, 4, 256]⟩
abbrev S128x4x4x64 : Shape := ⟨4, ![128, 4, 4, 64]⟩
abbrev S128x4x4x128 : Shape := ⟨4, ![128, 4, 4, 128]⟩
abbrev S128x4x16 : Shape := ⟨3, ![128, 4, 16]⟩
abbrev S32x1 : Shape := ⟨2, ![32, 1]⟩
abbrev S32x64x1 : Shape := ⟨3, ![32, 64, 1]⟩
abbrev S32x64x128x4 : Shape := ⟨4, ![32, 64, 128, 4]⟩
abbrev S128x4x32x64 : Shape := ⟨4, ![128, 4, 32, 64]⟩
abbrev S1x32x64 : Shape := ⟨3, ![1, 32, 64]⟩
abbrev S128x1x32x64 : Shape := ⟨4, ![128, 1, 32, 64]⟩
abbrev S1x1x256 : Shape := ⟨3, ![1, 1, 256]⟩
abbrev S128x4x1x64 : Shape := ⟨4, ![128, 4, 1, 64]⟩
abbrev S128x4x64 : Shape := ⟨3, ![128, 4, 64]⟩
abbrev S128x4x64x1 : Shape := ⟨4, ![128, 4, 64, 1]⟩
abbrev S128x2048 : Shape := ⟨2, ![128, 2048]⟩
abbrev S512x64x128 : Shape := ⟨3, ![512, 64, 128]⟩

abbrev nBuf : Space → Nat
  | .hbm => 221
  | .vmem => 0
  | .smem => 0
  | _ => 0

abbrev hbmTy0_0 (i : Nat) : BufTy := match i % 128 with
  | 0 => ⟨S128x4x1024, .f32⟩
  | 1 => ⟨S128x32x64, .f32⟩
  | 2 => ⟨S128x32x64, .f32⟩
  | 3 => ⟨S128x4x64x128, .f32⟩
  | 4 => ⟨S1024, .f32⟩
  | 5 => ⟨S1024x4112, .f32⟩
  | 6 => ⟨S32x64, .f32⟩
  | 7 => ⟨S32x64, .f32⟩
  | 8 => ⟨S32, .f32⟩
  | 9 => ⟨S32x64x16, .f32⟩
  | 10 => ⟨S32x64x16, .f32⟩
  | 11 => ⟨S32x16x64, .f32⟩
  | 12 => ⟨S32x16x64, .f32⟩
  | 13 => ⟨S32x16, .f32⟩
  | 14 => ⟨S512x512, .f32⟩
  | 15 => ⟨S16x256, .f32⟩
  | 16 => ⟨S256, .f32⟩
  | 17 => ⟨S128, .f32⟩
  | 18 => ⟨S512x1024, .f32⟩
  | 19 => ⟨S512x1024, .f32⟩
  | 20 => ⟨S1024x1024, .f32⟩
  | 21 => ⟨S128x4x1024, .f32⟩
  | 22 => ⟨S_, .f32⟩
  | 23 => ⟨S128x4, .f32⟩
  | 24 => ⟨S128x4x1, .f32⟩
  | 25 => ⟨S_, .f32⟩
  | 26 => ⟨S128x4x1, .f32⟩
  | 27 => ⟨S128x4x1, .f32⟩
  | 28 => ⟨S_, .f32⟩
  | 29 => ⟨S128x4x1, .f32⟩
  | 30 => ⟨S128x4x1, .f32⟩
  | 31 => ⟨S128x4x1, .f32⟩
  | 32 => ⟨S128x4x1024, .f32⟩
  | 33 => ⟨S128x4x1024, .f32⟩
  | 34 => ⟨S1x1x1024, .f32⟩
  | 35 => ⟨S128x4x1024, .f32⟩
  | 36 => ⟨S128x4x1024, .f32⟩
  | 37 => ⟨S128x4x4112, .f32⟩
  | 38 => ⟨S128x4x512, .f32⟩
  | 39 => ⟨S128x4x32x16, .f32⟩
  | 40 => ⟨S128x4x256, .f32⟩
  | 41 => ⟨S128x4x4x64, .f32⟩
  | 42 => ⟨S128x4x512, .f32⟩
  | 43 => ⟨S128x4x4x128, .f32⟩
  | 44 => ⟨S128x4x16, .f32⟩
  | 45 => ⟨S32, .f32⟩
  | 46 => ⟨S32x1, .f32⟩
  | 47 => ⟨S_, .f32⟩
  | 48 => ⟨S32x64, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S32x64, .f32⟩
  | 55 => ⟨S32x64, .f32⟩
  | 56 => ⟨S32x64, .f32⟩
  | 57 => ⟨S32x64, .f32⟩
  | 58 => ⟨S32x64, .f32⟩
  | 59 => ⟨S32x64, .f32⟩
  | 60 => ⟨S32x64, .f32⟩
  | 61 => ⟨S32x64, .f32⟩
  | 62 => ⟨S32x64, .f32⟩
  | 63 => ⟨S32x64, .f32⟩
  | 64 => ⟨S_, .f32⟩
  | 65 => ⟨S32x64, .f32⟩
  | 66 => ⟨S32x64, .f32⟩
  | 67 => ⟨S32x64, .f32⟩
  | 68 => ⟨S32x64, .f32⟩
  | 69 => ⟨S32x64, .f32⟩
  | 70 => ⟨S32x64, .f32⟩
  | 71 => ⟨S32x64, .f32⟩
  | 72 => ⟨S_, .f32⟩
  | 73 => ⟨S32x64, .f32⟩
  | 74 => ⟨S32x64, .f32⟩
  | 75 => ⟨S32x64, .f32⟩
  | 76 => ⟨S32x64, .f32⟩
  | 77 => ⟨S32x64, .f32⟩
  | 78 => ⟨S32x64x1, .f32⟩
  | 79 => ⟨S32x64x16, .f32⟩
  | 80 => ⟨S32x64x16, .f32⟩
  | 81 => ⟨S32x64x1, .f32⟩
  | 82 => ⟨S32x64x16, .f32⟩
  | 83 => ⟨S32x64x16, .f32⟩
  | 84 => ⟨S32x64x16, .f32⟩
  | 85 => ⟨S32x64x1, .f32⟩
  | 86 => ⟨S32x64x16, .f32⟩
  | 87 => ⟨S32x64x16, .f32⟩
  | 88 => ⟨S32x64x1, .f32⟩
  | 89 => ⟨S32x64x16, .f32⟩
  | 90 => ⟨S32x64x16, .f32⟩
  | 91 => ⟨S32x64x16, .f32⟩
  | 92 => ⟨S32x64x128x4, .f32⟩
  | 93 => ⟨S128x4x32x64, .f32⟩
  | 94 => ⟨S32x64x128x4, .f32⟩
  | 95 => ⟨S128x4x32x64, .f32⟩
  | 96 => ⟨S1x32x64, .f32⟩
  | 97 => ⟨S128x32x64, .f32⟩
  | 98 => ⟨S128x32x64, .f32⟩
  | 99 => ⟨S1x32x64, .f32⟩
  | 100 => ⟨S128x32x64, .f32⟩
  | 101 => ⟨S128x32x64, .f32⟩
  | 102 => ⟨S128x32x64, .f32⟩
  | 103 => ⟨S128x1x32x64, .f32⟩
  | 104 => ⟨S128x32x64, .f32⟩
  | 105 => ⟨S128x32x64, .f32⟩
  | 106 => ⟨S1x32x64, .f32⟩
  | 107 => ⟨S128x32x64, .f32⟩
  | 108 => ⟨S128x32x64, .f32⟩
  | 109 => ⟨S1x32x64, .f32⟩
  | 110 => ⟨S128x32x64, .f32⟩
  | 111 => ⟨S128x32x64, .f32⟩
  | 112 => ⟨S128x32x64, .f32⟩
  | 113 => ⟨S128x1x32x64, .f32⟩
  | 114 => ⟨S128x32x64, .f32⟩
  | 115 => ⟨S128x32x64, .f32⟩
  | 116 => ⟨S1x32x64, .f32⟩
  | 117 => ⟨S128x32x64, .f32⟩
  | 118 => ⟨S128x32x64, .f32⟩
  | 119 => ⟨S1x32x64, .f32⟩
  | 120 => ⟨S128x32x64, .f32⟩
  | 121 => ⟨S128x32x64, .f32⟩
  | 122 => ⟨S128x32x64, .f32⟩
  | 123 => ⟨S128x1x32x64, .f32⟩
  | 124 => ⟨S128x32x64, .f32⟩
  | 125 => ⟨S128x32x64, .f32⟩
  | 126 => ⟨S1x32x64, .f32⟩
  | 127 => ⟨S128x32x64, .f32⟩
  | _ => ⟨S128x4x1024, .f32⟩

abbrev hbmTy0_1 (i : Nat) : BufTy := match i % 128 with
  | 0 => ⟨S128x32x64, .f32⟩
  | 1 => ⟨S1x32x64, .f32⟩
  | 2 => ⟨S128x32x64, .f32⟩
  | 3 => ⟨S128x32x64, .f32⟩
  | 4 => ⟨S128x32x64, .f32⟩
  | 5 => ⟨S128x1x32x64, .f32⟩
  | 6 => ⟨S128x32x64, .f32⟩
  | 7 => ⟨S128x32x64, .f32⟩
  | 8 => ⟨S1x32x64, .f32⟩
  | 9 => ⟨S128x32x64, .f32⟩
  | 10 => ⟨S128x32x64, .f32⟩
  | 11 => ⟨S1x32x64, .f32⟩
  | 12 => ⟨S128x32x64, .f32⟩
  | 13 => ⟨S128x32x64, .f32⟩
  | 14 => ⟨S128x32x64, .f32⟩
  | 15 => ⟨S128x1x32x64, .f32⟩
  | 16 => ⟨S128x32x64, .f32⟩
  | 17 => ⟨S128x32x64, .f32⟩
  | 18 => ⟨S1x32x64, .f32⟩
  | 19 => ⟨S128x32x64, .f32⟩
  | 20 => ⟨S128x32x64, .f32⟩
  | 21 => ⟨S1x32x64, .f32⟩
  | 22 => ⟨S128x32x64, .f32⟩
  | 23 => ⟨S128x32x64, .f32⟩
  | 24 => ⟨S128x32x64, .f32⟩
  | 25 => ⟨S128x1x32x64, .f32⟩
  | 26 => ⟨S128x32x64, .f32⟩
  | 27 => ⟨S128x32x64, .f32⟩
  | 28 => ⟨S1x32x64, .f32⟩
  | 29 => ⟨S128x32x64, .f32⟩
  | 30 => ⟨S128x32x64, .f32⟩
  | 31 => ⟨S1x32x64, .f32⟩
  | 32 => ⟨S128x32x64, .f32⟩
  | 33 => ⟨S128x32x64, .f32⟩
  | 34 => ⟨S128x32x64, .f32⟩
  | 35 => ⟨S128x1x32x64, .f32⟩
  | 36 => ⟨S128x32x64, .f32⟩
  | 37 => ⟨S128x32x64, .f32⟩
  | 38 => ⟨S1x32x64, .f32⟩
  | 39 => ⟨S128x32x64, .f32⟩
  | 40 => ⟨S128x32x64, .f32⟩
  | 41 => ⟨S1x32x64, .f32⟩
  | 42 => ⟨S128x32x64, .f32⟩
  | 43 => ⟨S128x32x64, .f32⟩
  | 44 => ⟨S128x32x64, .f32⟩
  | 45 => ⟨S128x1x32x64, .f32⟩
  | 46 => ⟨S128x32x64, .f32⟩
  | 47 => ⟨S128x32x64, .f32⟩
  | 48 => ⟨S128x4x256, .f32⟩
  | 49 => ⟨S1x1x256, .f32⟩
  | 50 => ⟨S128x4x256, .f32⟩
  | 51 => ⟨S128x4x256, .f32⟩
  | 52 => ⟨S128x4x256, .f32⟩
  | 53 => ⟨S_, .f32⟩
  | 54 => ⟨S128x4x256, .f32⟩
  | 55 => ⟨S128x4x256, .f32⟩
  | 56 => ⟨S128x4x256, .f32⟩
  | 57 => ⟨S128x4x256, .f32⟩
  | 58 => ⟨S128x4x256, .i1⟩
  | 59 => ⟨S128x4x256, .f32⟩
  | 60 => ⟨S128x4x256, .f32⟩
  | 61 => ⟨S128x4x256, .f32⟩
  | 62 => ⟨S128x4x256, .f32⟩
  | 63 => ⟨S128x4x256, .f32⟩
  | 64 => ⟨S128x4x256, .f32⟩
  | 65 => ⟨S128x4x256, .f32⟩
  | 66 => ⟨S128x4x256, .f32⟩
  | 67 => ⟨S128x4x256, .f32⟩
  | 68 => ⟨S_, .f32⟩
  | 69 => ⟨S128x4x256, .f32⟩
  | 70 => ⟨S128x4x256, .f32⟩
  | 71 => ⟨S128x4x4x64, .f32⟩
  | 72 => ⟨S128x4x4x64, .f32⟩
  | 73 => ⟨S128x4x4x128, .f32⟩
  | 74 => ⟨S128x4x4x64, .f32⟩
  | 75 => ⟨S_, .f32⟩
  | 76 => ⟨S_, .f32⟩
  | 77 => ⟨S128x4x4x64, .f32⟩
  | 78 => ⟨S128x4x1x64, .f32⟩
  | 79 => ⟨S128x4x64, .f32⟩
  | 80 => ⟨S128x4x64, .f32⟩
  | 81 => ⟨S128x4x64x1, .f32⟩
  | 82 => ⟨S128x4x64x128, .f32⟩
  | 83 => ⟨S128x4x64x128, .f32⟩
  | 84 => ⟨S128x4x4x64, .f32⟩
  | 85 => ⟨S128x4x4x64, .f32⟩
  | 86 => ⟨S128x4x4x64, .f32⟩
  | 87 => ⟨S128x4x4x64, .f32⟩
  | 88 => ⟨S128x4x64x128, .f32⟩
  | 89 => ⟨S128x4x64x128, .f32⟩
  | 90 => ⟨S128x2048, .f32⟩
  | 91 => ⟨S128x2048, .f32⟩
  | 92 => ⟨S512x64x128, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_cst : Ref sig .tc := ⟨.hbm, 22, rfl⟩
abbrev main_v1 : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_cst_1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_3 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_4 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_call0_v0 : Ref sig .tc := ⟨.hbm, 180, rfl⟩
abbrev main_call0_call0_cst : Ref sig .tc := ⟨.hbm, 181, rfl⟩
abbrev main_call0_call0_v0 : Ref sig .tc := ⟨.hbm, 182, rfl⟩
abbrev main_call0_call0_v1 : Ref sig .tc := ⟨.hbm, 183, rfl⟩
abbrev main_call0_call0_v2 : Ref sig .tc := ⟨.hbm, 184, rfl⟩
abbrev main_call0_call0_v3 : Ref sig .tc := ⟨.hbm, 185, rfl⟩
abbrev main_call0_call0_v4 : Ref sig .tc := ⟨.hbm, 186, rfl⟩
abbrev main_call0_call0_v5 : Ref sig .tc := ⟨.hbm, 187, rfl⟩
abbrev main_call0_call0_v6 : Ref sig .tc := ⟨.hbm, 188, rfl⟩
abbrev main_call0_call0_v7 : Ref sig .tc := ⟨.hbm, 189, rfl⟩
abbrev main_call0_call0_v8 : Ref sig .tc := ⟨.hbm, 190, rfl⟩
abbrev main_call0_call0_v9 : Ref sig .tc := ⟨.hbm, 191, rfl⟩
abbrev main_call0_call0_v10 : Ref sig .tc := ⟨.hbm, 192, rfl⟩
abbrev main_call0_call0_v11 : Ref sig .tc := ⟨.hbm, 193, rfl⟩
abbrev main_call0_v1 : Ref sig .tc := ⟨.hbm, 194, rfl⟩
abbrev main_v153 : Ref sig .tc := ⟨.hbm, 195, rfl⟩
abbrev main_cst_5 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_call1_call0_cst : Ref sig .tc := ⟨.hbm, 203, rfl⟩
abbrev main_call1_call0_v0 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_v173 : Ref sig .tc := ⟨.hbm, 218, rfl⟩
abbrev main_v174 : Ref sig .tc := ⟨.hbm, 219, rfl⟩
abbrev main_v175 : Ref sig .tc := ⟨.hbm, 220, rfl⟩

abbrev nD : Nat := 1
abbrev τ : Topo := Topo.v7x

variable {F : FTy → Type} [FloatOps F]
-- ==== Kernel2.lean ====
abbrev S16384x1024 : Shape := ⟨2, ![16384, 1024]⟩
abbrev S128x4x1024 : Shape := ⟨3, ![128, 4, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S8x1024x512 : Shape := ⟨3, ![8, 1024, 512]⟩
abbrev S8x512x1024 : Shape := ⟨3, ![8, 512, 1024]⟩
abbrev S512 : Shape := ⟨1, ![512]⟩
abbrev S512x1 : Shape := ⟨2, ![512, 1]⟩
abbrev S1x1024x512 : Shape := ⟨3, ![1, 1024, 512]⟩
abbrev S1x512x1024 : Shape := ⟨3, ![1, 512, 1024]⟩
abbrev S512x512 : Shape := ⟨2, ![512, 512]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S128x4x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S16384x1024, .f32⟩
  | .hbm, ⟨9, _⟩ => ⟨S128x4x1024, .f32⟩
  | .local _ .vmem, ⟨0, _⟩ => ⟨S1024x1024, .f32⟩
  | .local _ .vmem, ⟨1, _⟩ => ⟨S1024x1024, .f32⟩
  | .local _ .vmem, ⟨2, _⟩ => ⟨S128x4x1024, .f32⟩
  | .local _ .vmem, ⟨3, _⟩ => ⟨S1x1024, .f32⟩
  | .local _ .vmem, ⟨4, _⟩ => ⟨S1024x512, .f32⟩
  | .local _ .vmem, ⟨5, _⟩ => ⟨S1024x512, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S128x4x1024, .f32⟩
  | .local _ .vmem, ⟨12, _⟩ => ⟨S8x1024x512, .bf16⟩
  | .local _ .vmem, ⟨13, _⟩ => ⟨S8x512x1024, .bf16⟩
  | .local _ .vmem, ⟨14, _⟩ => ⟨S512x1024, .bf16⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v16 : Index := Scalar.indexCast arg0
  let c0_8 : Index := 0#32
  let c0_9 : Index := 0#32
  ![v16.toNat, 0, 0]
def k0_off2 (i : grid0.Coords) : Fin 3 → Nat :=
  let arg0 : BitVec 32 := BitVec.ofNat 32 (i 0).val
  let v20 : Index := Scalar.indexCast arg0
  let c0_10 : Index := 0#32
  let c0_11 : Index := 0#32
  ![v20.toNat, 0, 0]
def k0_cond4 (i : grid0.Coords) : BitVec 1 :=
  let arg0 : BitVec 32 := BitVec.ofNat 32 (i 0).val
  let c8_i32_3 : BitVec 32 := 8#32
  let v9 : BitVec 1 := Scalar.cmpi .sge arg0 c8_i32_3
  let v10 : BitVec 32 := Scalar.extui v9
  let c0_i32_4 : BitVec 32 := 0#32
  let v11 : BitVec 1 := Scalar.cmpi .ne v10 c0_i32_4
  v11

def k0_cond3 (i : grid0.Coords) : BitVec 1 :=
  let arg0 : BitVec 32 := BitVec.ofNat 32 (i 0).val
  let c7_i32 : BitVec 32 := 7#32
  let v6 : BitVec 1 := Scalar.cmpi .eq arg0 c7_i32
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  ![v2.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x4x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S16384x1024 : Shape := ⟨2, ![16384, 1024]⟩
abbrev S128x4x1024 : Shape := ⟨3, ![128, 4, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩
abbrev S128x4 : Shape := ⟨2, ![128, 4]⟩
abbrev S128x4x1 : Shape := ⟨3, ![128, 4, 1]⟩
abbrev S1x1x1024 : Shape := ⟨3, ![1, 1, 1024]⟩
abbrev S128x4x4096 : Shape := ⟨3, ![128, 4, 4096]⟩

abbrev nBuf : Space → Nat
  | .hbm => 84
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S128x4x1024, .f32⟩
  | .hbm, ⟨2, _⟩ => ⟨S1024, .f32⟩
  | .hbm, ⟨3, _⟩ => ⟨S1024x4096, .f32⟩
  | .hbm, ⟨4, _⟩ => ⟨S4096x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S16384x1024, .f32⟩
  | .hbm, ⟨44, _⟩ => ⟨S16384x1024, .f32⟩
  | .hbm, ⟨45, _⟩ => ⟨S128x4x1024, .f32⟩
  | .hbm, ⟨46, _⟩ => ⟨S_, .f32⟩
  | .hbm, ⟨47, _⟩ => ⟨S128x4, .f32⟩
  | .hbm, ⟨48, _⟩ => ⟨S128x4x1, .f32⟩
  | .hbm, ⟨49, _⟩ => ⟨S_, .f32⟩
  | .hbm, ⟨50, _⟩ => ⟨S128x4x1, .f32⟩
  | .hbm, ⟨51, _⟩ => ⟨S128x4x1, .f32⟩
  | .hbm, ⟨52, _⟩ => ⟨S_, .f32⟩
  | .hbm, ⟨53, _⟩ => ⟨S128x4x1, .f32⟩
  | .hbm, ⟨54, _⟩ => ⟨S128x4x1, .f32⟩
  | .hbm, ⟨55, _⟩ => ⟨S128x4x1, .f32⟩
  | .hbm, ⟨56, _⟩ => ⟨S128x4x1024, .f32⟩
  | .hbm, ⟨57, _⟩ => ⟨S128x4x1024, .f32⟩
  | .hbm, ⟨58, _⟩ => ⟨S1x1x1024, .f32⟩
  | .hbm, ⟨59, _⟩ => ⟨S128x4x1024, .f32⟩
  | .hbm, ⟨60, _⟩ => ⟨S128x4x1024, .f32⟩
  | .hbm, ⟨61, _⟩ => ⟨S128x4x4096, .f32⟩
  | .hbm, ⟨62, _⟩ => ⟨S_, .f32⟩
  | .hbm, ⟨63, _⟩ => ⟨S128x4x4096, .f32⟩
  | .hbm, ⟨64, _⟩ => ⟨S128x4x4096, .f32⟩
  | .hbm, ⟨65, _⟩ => ⟨S128x4x4096, .f32⟩
  | .hbm, ⟨66, _⟩ => ⟨S128x4x1024, .f32⟩
  | .hbm, ⟨67, _⟩ => ⟨S128x4x1024, .f32⟩
  | .hbm, ⟨68, _⟩ => ⟨S128x4x1024, .f32⟩
  | .hbm, ⟨69, _⟩ => ⟨S_, .f32⟩
  | .hbm, ⟨70, _⟩ => ⟨S128x4, .f32⟩
  | .hbm, ⟨71, _⟩ => ⟨S128x4x1, .f32⟩
  | .hbm, ⟨72, _⟩ => ⟨S_, .f32⟩
  | .hbm, ⟨73, _⟩ => ⟨S128x4x1, .f32⟩
  | .hbm, ⟨74, _⟩ => ⟨S128x4x1, .f32⟩
  | .hbm, ⟨75, _⟩ => ⟨S_, .f32⟩
  | .hbm, ⟨76, _⟩ => ⟨S128x4x1, .f32⟩
  | .hbm, ⟨77, _⟩ => ⟨S128x4x1, .f32⟩
  | .hbm, ⟨78, _⟩ => ⟨S128x4x1, .f32⟩
  | .hbm, ⟨79, _⟩ => ⟨S128x4x1024, .f32⟩
  | .hbm, ⟨80, _⟩ => ⟨S128x4x1024, .f32⟩
  | .hbm, ⟨81, _⟩ => ⟨S1x1x1024, .f32⟩
  | .hbm, ⟨82, _⟩ => ⟨S128x4x1024, .f32⟩
  | .hbm, ⟨83, _⟩ => ⟨S128x4x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call1_cst : Ref sig .tc := ⟨.hbm, 62, rfl⟩
abbrev main_call1_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Proof.MixFrame.lean ====
/-
  The mixer kernel's launch: what the body leaves in the outputs' buffers at every grid point, the body obligation, the
  run of the whole program, and the frame. Every grid point is alike: the grid's second axis has one step, so each point
  loads the states, runs its sequences, and stores the states.
-/
module

public import proofs.«01_k».proof.Proof.Gen.KernelIdeal.Frame.RunA
public import Idealize.ShloMosaic.Lib.Claim

@[expose] public section

set_option maxRecDepth 16384

noncomputable section

namespace Cert.KernelIdeal.Mix

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body leaves -/

/-- The body's run at point `t`, on the point's buffers and input blocks. -/
def run (c : Dev nD) (t : Fin cfg0.N) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) (hcond0_0 t) (hcond0_1 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t)

/-- What point `t` leaves in the buffer of output 24: the run's stores read back. -/
def left24 (c : Dev nD) (t : Fin cfg0.N) : Vec F S32x4x1024 .f32 :=
  VO0_24.read (Elt F) (VO0_24.writes (Elt F) VO0_24.junk (run m c t).1)

theorem cover24 (c : Dev nD) (t : Fin cfg0.N) (y : S32x4x1024.Idx) : ∃ pc ∈ (run m c t).1, y ∈ pc.1.set :=
  View.cover_of_tiledL (run m c t).1 S32x4x1024.size (by sl_kernel_rfl) y

/-- What point `t` leaves in the buffer of output 25: the run's stores read back. -/
def left25 (c : Dev nD) (t : Fin cfg0.N) : Vec F S32x2048 .f32 :=
  VO0_25.read (Elt F) (VO0_25.writes (Elt F) VO0_25.junk (run m c t).2.1)

theorem cover25 (c : Dev nD) (t : Fin cfg0.N) (y : S32x2048.Idx) : ∃ pc ∈ (run m c t).2.1, y ∈ pc.1.set :=
  View.cover_of_tiledL (run m c t).2.1 S32x2048.size (by sl_kernel_rfl) y

/-- What point `t` leaves in the buffer of output 26: the run's stores read back. -/
def left26 (c : Dev nD) (t : Fin cfg0.N) : Vec F S32x2048 .f32 :=
  VO0_26.read (Elt F) (VO0_26.writes (Elt F) VO0_26.junk (run m c t).2.2.1)

theorem cover26 (c : Dev nD) (t : Fin cfg0.N) (y : S32x2048.Idx) : ∃ pc ∈ (run m c t).2.2.1, y ∈ pc.1.set :=
  View.cover_of_tiledL (run m c t).2.2.1 S32x2048.size (by sl_kernel_rfl) y

/-- What point `t` leaves in the buffer of output 27: the run's stores read back. -/
def left27 (c : Dev nD) (t : Fin cfg0.N) : Vec F S128x64x128 .f32 :=
  VO0_27.read (Elt F) (VO0_27.writes (Elt F) VO0_27.junk (run m c t).2.2.2.1)

theorem cover27 (c : Dev nD) (t : Fin cfg0.N) (y : S128x64x128.Idx) : ∃ pc ∈ (run m c t).2.2.2.1, y ∈ pc.1.set :=
  View.cover_of_tiledL (run m c t).2.2.2.1 S128x64x128.size (by sl_kernel_rfl) y

/-! ## The pipeline's proof data -/

/-- The proof data of the pipeline on core `c`: each input's buffer holds its block after every point, each output's what
    the run leaves, and the rest is as the class of the kernel has it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => left24 m c t
    | ⟨25, _⟩ => left25 m c t
    | ⟨26, _⟩ => left26 m c t
    | ⟨27, _⟩ => left27 m c t
    | ⟨_ + 28, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = iblk m c 21 t := by dsimp only [dats]
theorem after_22 (c : Dev nD) (t : Fin cfg0.N) : (dats m 0 c).after 22 t = iblk m c 22 t := by dsimp only [dats]
theorem after_23 (c : Dev nD) (t : Fin cfg0.N) : (dats m 0 c).after 23 t = iblk m c 23 t := by dsimp only [dats]
theorem after_24 (c : Dev nD) (t : Fin cfg0.N) : (dats m 0 c).after 24 t = left24 m c t := by dsimp only [dats]
theorem after_25 (c : Dev nD) (t : Fin cfg0.N) : (dats m 0 c).after 25 t = left25 m c t := by dsimp only [dats]
theorem after_26 (c : Dev nD) (t : Fin cfg0.N) : (dats m 0 c).after 26 t = left26 m c t := by dsimp only [dats]
theorem after_27 (c : Dev nD) (t : Fin cfg0.N) : (dats m 0 c).after 27 t = left27 m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d
theorem before_21 (c : Dev nD) (t : Fin cfg0.N) (d) : (dats m 0 c).before 21 t d = iblk m c 21 t :=
  before0_21_of m (dats m 0 c) (A_eq m c 21) (after_21 m c) t d
theorem before_22 (c : Dev nD) (t : Fin cfg0.N) (d) : (dats m 0 c).before 22 t d = iblk m c 22 t :=
  before0_22_of m (dats m 0 c) (A_eq m c 22) (after_22 m c) t d
theorem before_23 (c : Dev nD) (t : Fin cfg0.N) (d) : (dats m 0 c).before 23 t d = iblk m c 23 t :=
  before0_23_of m (dats m 0 c) (A_eq m c 23) (after_23 m c) t d

/-! ## The body obligation -/

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t)

set_option maxHeartbeats 4000000 in
/-- The body at any point: the inputs' buffers hold their blocks, so the run applies; the scratch buffers are taken at
    some contents and given back at some contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after_0]
  rw [show (dats m 0 c).leavesExact 1 t = owns (c : Thread nD τ) (ms0_1 t) fullShare ((dats m 0 c).after 1 t) from by
      unfold Dat.leavesExact; rw [liveAt0_1 t], after_1]
  rw [show (dats m 0 c).leavesExact 2 t = owns (c : Thread nD τ) (ms0_2 t) fullShare ((dats m 0 c).after 2 t) from by
      unfold Dat.leavesExact; rw [liveAt0_2 t], after_2]
  rw [show (dats m 0 c).leavesExact 3 t = owns (c : Thread nD τ) (ms0_3 t) fullShare ((dats m 0 c).after 3 t) from by
      unfold Dat.leavesExact; rw [liveAt0_3 t], after_3]
  rw [show (dats m 0 c).leavesExact 4 t = owns (c : Thread nD τ) (ms0_4 t) fullShare ((dats m 0 c).after 4 t) from by
      unfold Dat.leavesExact; rw [liveAt0_4 t], after_4]
  rw [show (dats m 0 c).leavesExact 5 t = owns (c : Thread nD τ) (ms0_5 t) fullShare ((dats m 0 c).after 5 t) from by
      unfold Dat.leavesExact; rw [liveAt0_5 t], after_5]
  rw [show (dats m 0 c).leavesExact 6 t = owns (c : Thread nD τ) (ms0_6 t) fullShare ((dats m 0 c).after 6 t) from by
      unfold Dat.leavesExact; rw [liveAt0_6 t], after_6]
  rw [show (dats m 0 c).leavesExact 7 t = owns (c : Thread nD τ) (ms0_7 t) fullShare ((dats m 0 c).after 7 t) from by
      unfold Dat.leavesExact; rw [liveAt0_7 t], after_7]
  rw [show (dats m 0 c).leavesExact 8 t = owns (c : Thread nD τ) (ms0_8 t) fullShare ((dats m 0 c).after 8 t) from by
      unfold Dat.leavesExact; rw [liveAt0_8 t], after_8]
  rw [show (dats m 0 c).leavesExact 9 t = owns (c : Thread nD τ) (ms0_9 t) fullShare ((dats m 0 c).after 9 t) from by
      unfold Dat.leavesExact; rw [liveAt0_9 t], after_9]
  rw [show (dats m 0 c).leavesExact 10 t = owns (c : Thread nD τ) (ms0_10 t) fullShare ((dats m 0 c).after 10 t) from by
      unfold Dat.leavesExact; rw [liveAt0_10 t], after_10]
  rw [show (dats m 0 c).leavesExact 11 t = owns (c : Thread nD τ) (ms0_11 t) fullShare ((dats m 0 c).after 11 t) from by
      unfold Dat.leavesExact; rw [liveAt0_11 t], after_11]
  rw [show (dats m 0 c).leavesExact 12 t = owns (c : Thread nD τ) (ms0_12 t) fullShare ((dats m 0 c).after 12 t) from by
      unfold Dat.leavesExact; rw [liveAt0_12 t], after_12]
  rw [show (dats m 0 c).leavesExact 13 t = owns (c : Thread nD τ) (ms0_13 t) fullShare ((dats m 0 c).after 13 t) from by
      unfold Dat.leavesExact; rw [liveAt0_13 t], after_13]
  rw [show (dats m 0 c).leavesExact 14 t = owns (c : Thread nD τ) (ms0_14 t) fullShare ((dats m 0 c).after 14 t) from by
      unfold Dat.leavesExact; rw [liveAt0_14 t], after_14]
  rw [show (dats m 0 c).leavesExact 15 t = owns (c : Thread nD τ) (ms0_15 t) fullShare ((dats m 0 c).after 15 t) from by
      unfold Dat.leavesExact; rw [liveAt0_15 t], after_15]
  rw [show (dats m 0 c).leavesExact 16 t = owns (c : Thread nD τ) (ms0_16 t) fullShare ((dats m 0 c).after 16 t) from by
      unfold Dat.leavesExact; rw [liveAt0_16 t], after_16]
  rw [show (dats m 0 c).leavesExact 17 t = owns (c : Thread nD τ) (ms0_17 t) fullShare ((dats m 0 c).after 17 t) from by
      unfold Dat.leavesExact; rw [liveAt0_17 t], after_17]
  rw [show (dats m 0 c).leavesExact 18 t = owns (c : Thread nD τ) (ms0_18 t) fullShare ((dats m 0 c).after 18 t) from by
      unfold Dat.leavesExact; rw [liveAt0_18 t], after_18]
  rw [show (dats m 0 c).leavesExact 19 t = owns (c : Thread nD τ) (ms0_19 t) fullShare ((dats m 0 c).after 19 t) from by
      unfold Dat.leavesExact; rw [liveAt0_19 t], after_19]
  rw [show (dats m 0 c).leavesExact 20 t = owns (c : Thread nD τ) (ms0_20 t) fullShare ((dats m 0 c).after 20 t) from by
      unfold Dat.leavesExact; rw [liveAt0_20 t], after_20]
  rw [show (dats m 0 c).leavesExact 21 t = owns (c : Thread nD τ) (ms0_21 t) fullShare ((dats m 0 c).after 21 t) from by
      unfold Dat.leavesExact; rw [liveAt0_21 t], after_21]
  rw [show (dats m 0 c).leavesExact 22 t = owns (c : Thread nD τ) (ms0_22 t) fullShare ((dats m 0 c).after 22 t) from by
      unfold Dat.leavesExact; rw [liveAt0_22 t], after_22]
  rw [show (dats m 0 c).leavesExact 23 t = owns (c : Thread nD τ) (ms0_23 t) fullShare ((dats m 0 c).after 23 t) from by
      unfold Dat.leavesExact; rw [liveAt0_23 t], after_23]
  rw [show (dats m 0 c).leavesExact 24 t = owns (c : Thread nD τ) (ms0_24 t) fullShare ((dats m 0 c).after 24 t) from by
      unfold Dat.leavesExact; rw [liveAt0_24 t], after_24]
  rw [show (dats m 0 c).leavesExact 25 t = owns (c : Thread nD τ) (ms0_25 t) fullShare ((dats m 0 c).after 25 t) from by
      unfold Dat.leavesExact; rw [liveAt0_25_A t (hcond0_0 t) (hcond0_1 t)], after_25]
  rw [show (dats m 0 c).leavesExact 26 t = owns (c : Thread nD τ) (ms0_26 t) fullShare ((dats m 0 c).after 26 t) from by
      unfold Dat.leavesExact; rw [liveAt0_26_A t (hcond0_0 t) (hcond0_1 t)], after_26]
  rw [show (dats m 0 c).leavesExact 27 t = owns (c : Thread nD τ) (ms0_27 t) fullShare ((dats m 0 c).after 27 t) from by
      unfold Dat.leavesExact; rw [liveAt0_27_A t (hcond0_0 t) (hcond0_1 t)], after_27]
  unfold left24 left25 left26 left27
  iintro ⟨⟨⟨HS0, HS1, HS2, HS3, HS4, HS5, HS6, HS7, HS8, HS9, HS10, HS11, HS12, HS13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩⟩
  iapply ((run m c t).2.2.2.2.2.2.2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  isplitl [H25]; · iexists _; iexact H25
  isplitl [H26]; · iexists _; iexact H26
  isplitl [H27]; · iexists _; iexact H27
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  iintro ⟨H0, H1, H2, H3, H4, H5, H6, H7, H8, H9, H10, H11, H12, H13, H14, H15, H16, H17, H18, H19, H20, H21, H22, H23, ⟨%e24, H24⟩, ⟨%e25, H25⟩, ⟨%e26, H26⟩, ⟨%e27, H27⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩, ⟨%fT10, HS10⟩, ⟨%fT11, HS11⟩, ⟨%fT12, HS12⟩, ⟨%fT13, HS13⟩⟩
  isplitl [HS0 HS1 HS2 HS3 HS4 HS5 HS6 HS7 HS8 HS9 HS10 HS11 HS12 HS13 Hg]
  · isplitl [HS0 HS1 HS2 HS3 HS4 HS5 HS6 HS7 HS8 HS9 HS10 HS11 HS12 HS13]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      isplitl [HS8]
      · iexists _; unfold owns; iexists _; isplitr
        swap; · iexact HS8
        ipureintro; rfl
      isplitl [HS9]
      · iexists _; unfold owns; iexists _; isplitr
        swap; · iexact HS9
        ipureintro; rfl
      isplitl [HS10]
      · iexists _; unfold owns; iexists _; isplitr
        swap; · iexact HS10
        ipureintro; rfl
      isplitl [HS11]
      · iexists _; unfold owns; iexists _; isplitr
        swap; · iexact HS11
        ipureintro; rfl
      isplitl [HS12]
      · iexists _; unfold owns; iexists _; isplitr
        swap; · iexact HS12
        ipureintro; rfl
      iexists _; unfold owns; iexists _; isplitr
      swap; · iexact HS13
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]
  · unfold owns; iexists _; isplitr
    swap; · iexact H24
    ipureintro; exact View.read_writes_of_cover _ _ _ _ _ (cover24 m c t)
  isplitl [H25]
  · unfold owns; iexists _; isplitr
    swap; · iexact H25
    ipureintro; exact View.read_writes_of_cover _ _ _ _ _ (cover25 m c t)
  isplitl [H26]
  · unfold owns; iexists _; isplitr
    swap; · iexact H26
    ipureintro; exact View.read_writes_of_cover _ _ _ _ _ (cover26 m c t)
  unfold owns; iexists _; isplitr
  swap; · iexact H27
  ipureintro; exact View.read_writes_of_cover _ _ _ _ _ (cover27 m c t)

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body obligation of the launch: the body's triple restated over the list of windows. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole program runs to an end: every array of the pipeline is what the proof data computes, every other buffer as
    the region found it, and no semaphore is left raised. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20))
      ∧ r.2.sem = fun _ => 0) :=
  θ_run_and (frame_of m ρ (dats m) (A_eq m) (run_main m ρ))
    ((θ_run defs _ _).mono (fun _ h => h.2) (run_main_quiescent m ρ))

end Cert.KernelIdeal.Mix

end
-- ==== Proof.MixBits.lean ====
/-
  The mixer kernel's frame at the bit-exact instance.
-/
module

public import proofs.«01_k».proof.Defs
public import proofs.«01_k».proof.Proof.MixFrame
public import proofs.«01_k».proof.Proof.Gen.Kernel

@[expose] public section

set_option maxRecDepth 16384

noncomputable section

namespace Cert.Proof

open Idealize.ShloMosaic Idealize.ShloMosaic.Tactic Idealize.SL.Sem

/-- A named constant at the bit-exact instance: its printed bits, whatever its name. -/
@[reducible] def namedBits : Named Bits := ⟨fun _ _ {φ} bits => Scalar.ofBits φ bits⟩

/-- The printed program and its idealized form differ in one constant, printed by its bits in the one and by its name in
    the other: where a name stands for its bits they are the same program, and their frames the same statement. -/
theorem frame_same : Cert.quiescent_Kernel (hKernel := Cert.Kernel.Gen.facts)
    = ∀ m g, True → type_of% (@Cert.KernelIdeal.Mix.frame Bits _ namedBits m g) := by sl_kernel_rfl

theorem frame_Kernel : Cert.quiescent_Kernel (hKernel := Cert.Kernel.Gen.facts) :=
  frame_same.mpr fun m g _ => @Cert.KernelIdeal.Mix.frame Bits _ namedBits m g

end Cert.Proof

end
-- ==== Proof.MixClaims.lean ====
/-
  The mixer's claims beside its values: the frames of the idealized kernel and of the reference, and what the one
  idealization states.
-/
module

public import proofs.«01_k».proof.Defs
public import proofs.«01_k».proof.Proof.MixFrame
public import proofs.«01_k».proof.Proof.Gen.ReferenceIdeal.Run
public import Idealize.ShloMosaic.Lib.Claim
public import Idealize.ShloMosaic.Lib.Quiescent

@[expose] public section

set_option maxRecDepth 16384

noncomputable section

namespace Cert.Proof

open Idealize.ShloMosaic Idealize.SL.Sem

theorem frame_KernelIdeal : Cert.quiescent_KernelIdeal (hKernelIdeal := Cert.KernelIdeal.Gen.facts) :=
  fun m g _ => Cert.KernelIdeal.Mix.frame (F := Ideal) m g

theorem frame_ReferenceIdeal : Cert.quiescent_ReferenceIdeal (hReferenceIdeal := Cert.ReferenceIdeal.Gen.facts) := fun m g _ =>
  (θ_run Cert.ReferenceIdeal.defs _ _).mono (fun r h => ⟨fun c => (h c).2.2.2, sem_eq_zero_of_no_sems rfl r.2⟩)
    (Cert.ReferenceIdeal.Value.run (F := Ideal) m g)

theorem preserves_Kernel : Cert.preserves_Kernel_KernelIdeal :=
  IdealRules.named_const.statement Cert.KernelIdeal.κ "log2e" .f32 0x3DB8AA3B#32 _ rfl

end Cert.Proof

end
-- ==== Proof.FfnRun.lean ====
/-
  The body of the feed-forward kernel, one triple for each kind of grid point: what the twelve buffers hold
  before the body and after it. A chunk point (0..7) puts its two weight chunks into the weight scratches and
  adds the chunk's contribution to the sample rows' accumulator; point 0 first fills the normalised sample
  rows and starts the accumulator; point 7 then writes the finished sample rows; a tile point (8..23) runs
  the whole feed-forward network on its prompt tile over the filled scratches.
-/
module

public import proofs.«01_k».proof.Proof.Gen.Kernel2Ideal.Frame
public import proofs.«01_k».proof.Proof.Gen.Kernel2Ideal.Skeleton
public import Idealize.ShloMosaic.Lib.VecWindow

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (arg1 : Memref sig .tc .vmem S1024x1024 .f32) (harg1 : arg1.IsWhole)
variable (arg2 : Memref sig .tc .vmem S128x4x1024 .f32) (harg2 : arg2.IsWhole)
variable (arg3 : Memref sig .tc .vmem S1x1024 .f32) (harg3 : arg3.IsWhole)
variable (arg4 : Memref sig .tc .vmem S1024x512 .f32) (harg4 : arg4.IsWhole)
variable (arg5 : Memref sig .tc .vmem S512x1024 .f32) (harg5 : arg5.IsWhole)
variable (arg6 : Memref sig .tc .vmem S1x1024 .f32) (harg6 : arg6.IsWhole)
variable (arg7 : Memref sig .tc .vmem S1024x1024 .f32) (harg7 : arg7.IsWhole)
variable (arg8 : Memref sig .tc .vmem S128x4x1024 .f32) (harg8 : arg8.IsWhole)
variable (arg9 : Memref sig .tc .vmem S8x1024x512 .bf16) (harg9 : arg9.IsWhole)
variable (arg10 : Memref sig .tc .vmem S8x512x1024 .bf16) (harg10 : arg10.IsWhole)
variable (arg11 : Memref sig .tc .vmem S512x1024 .bf16) (harg11 : arg11.IsWhole)
variable (arg12 : Memref sig .tc .vmem S512x1024 .f32) (harg12 : arg12.IsWhole)

/-- The twelve buffers of the body held at given values: the six inputs (prompt tile, sample rows, first gain, the two
    weight chunks, last gain), the two outputs, the two weight scratches, the normalised sample rows, the accumulator. -/
def Held (c : Dev nD) (x : Vec F S1024x1024 .f32) (xs : Vec F S128x4x1024 .f32) (gf : Vec F S1x1024 .f32) (u : Vec F S1024x512 .f32) (w : Vec F S512x1024 .f32) (gl : Vec F S1x1024 .f32) (y : Vec F S1024x1024 .f32) (ys : Vec F S128x4x1024 .f32) (w1 : Vec F S8x1024x512 .bf16) (w2 : Vec F S8x512x1024 .bf16) (h : Vec F S512x1024 .bf16) (a : Vec F S512x1024 .f32) : sProp 𝕄 :=
  iprop(owns (c : Thread nD τ) arg1 fullShare x ∗ owns (c : Thread nD τ) arg2 fullShare xs ∗ owns (c : Thread nD τ) arg3 fullShare gf ∗ owns (c : Thread nD τ) arg4 fullShare u ∗ owns (c : Thread nD τ) arg5 fullShare w ∗ owns (c : Thread nD τ) arg6 fullShare gl ∗ owns (c : Thread nD τ) arg7 fullShare y ∗ owns (c : Thread nD τ) arg8 fullShare ys ∗ owns (c : Thread nD τ) arg9 fullShare w1 ∗ owns (c : Thread nD τ) arg10 fullShare w2 ∗ owns (c : Thread nD τ) arg11 fullShare h ∗ owns (c : Thread nD τ) arg12 fullShare a)

/-- The weight chunk of the point put into its slot of the first weight scratch. -/
def fill1 (i : grid0.Coords) (w1 : Vec F S8x1024x512 .bf16) (u : Vec F S1024x512 .f32) : Vec F S8x1024x512 .bf16 :=
  VecWindow.put (s := S8x1024x512) w1 (k0_off1 i) S1x1024x512.size (k0_pay6 u)

/-- The weight chunk of the point put into its slot of the second weight scratch. -/
def fill2 (i : grid0.Coords) (w2 : Vec F S8x512x1024 .bf16) (w : Vec F S512x1024 .f32) : Vec F S8x512x1024 .bf16 :=
  VecWindow.put (s := S8x512x1024) w2 (k0_off2 i) S1x512x1024.size (k0_pay7 w)

/-- A slot lies within the first weight scratch. -/
theorem slot1_inb : ∀ (k : Fin 8) (a : Fin 3), (![k.val, 0, 0] : Fin 3 → ℕ) a + S1x1024x512.size a ≤ S8x1024x512.size a := by decide +kernel

/-- A slot lies within the second weight scratch. -/
theorem slot2_inb : ∀ (k : Fin 8) (a : Fin 3), (![k.val, 0, 0] : Fin 3 → ℕ) a + S1x512x1024.size a ≤ S8x512x1024.size a := by decide +kernel

/-- Slot `k` of the first weight scratch. -/
def slot1 (w1 : Vec F S8x1024x512 .bf16) (k : Fin 8) : Vec F S1x1024x512 .bf16 :=
  VecWindow.window (s := S8x1024x512) w1 ![k.val, 0, 0] S1x1024x512.size (slot1_inb k)

/-- Slot `k` of the second weight scratch. -/
def slot2 (w2 : Vec F S8x512x1024 .bf16) (k : Fin 8) : Vec F S1x512x1024 .bf16 :=
  VecWindow.window (s := S8x512x1024) w2 ![k.val, 0, 0] S1x512x1024.size (slot2_inb k)

/-- What a tile point writes: the printed chain over the eight slots of the two weight scratches. -/
def tile (x : Vec F S1024x1024 .f32) (gf gl : Vec F S1x1024 .f32) (s1 : Fin 8 → Vec F S1x1024x512 .bf16) (s2 : Fin 8 → Vec F S1x512x1024 .bf16) : Vec F S1024x1024 .f32 :=
  let h := k0_pay11 x gf
  let p := k0_pay15 h (k0_pay12 x gf (s1 0) (s2 0)) (k0_pay13 (s2 1)) (k0_pay14 x gf (s1 1)) (s1 2) (s2 2) (s1 3) (s2 3)
  let q := k0_pay18 h p (k0_pay16 (s2 4)) (k0_pay17 h (s1 4)) (s1 5) (s2 5) (s1 6) (s2 6)
  k0_pay10 q (k0_pay19 (s2 7)) (k0_pay20 h (s1 7)) gl

omit [FloatOps F] in
/-- A load of slot `k` of the first weight scratch. -/
theorem ld1 (w1 : Vec F S8x1024x512 .bf16) (k : Fin 8) {off : Fin 3 → ℕ} (h : off = ![k.val, 0, 0]) (inb : ∀ a, off a + S1x1024x512.size a ≤ S8x1024x512.size a) :
    arg9.view.readAt (Elt F) (Rect.unit (s := S8x1024x512) off S1x1024x512.size inb).toLoadRect (harg9.unread w1) = slot1 w1 k := by
  rw [View.readAt_unit (s := S8x1024x512) arg9.view _ inb h (slot1_inb k), harg9.read_unread]; rfl

omit [FloatOps F] in
/-- A load of slot `k` of the second weight scratch. -/
theorem ld2 (w2 : Vec F S8x512x1024 .bf16) (k : Fin 8) {off : Fin 3 → ℕ} (h : off = ![k.val, 0, 0]) (inb : ∀ a, off a + S1x512x1024.size a ≤ S8x512x1024.size a) :
    arg10.view.readAt (Elt F) (Rect.unit (s := S8x512x1024) off S1x512x1024.size inb).toLoadRect (harg10.unread w2) = slot2 w2 k := by
  rw [View.readAt_unit (s := S8x512x1024) arg10.view _ inb h (slot2_inb k), harg10.read_unread]; rfl

include harg1 harg2 harg3 harg4 harg5 harg6 harg7 harg8 harg9 harg10 harg11 harg12

set_option maxHeartbeats 1000000 in
/-- The first point. -/
theorem runA (c : Dev nD) (i : grid0.Coords) (hc0 : ((Scalar.cmpi .ne (Scalar.extui (Scalar.cmpi .eq (BitVec.ofNat 32 (i 0).val) 0#32)) 0#32) = 1#1)) (hc1 : (k0_cond2 i = 1#1)) (hc2 : ¬(k0_cond3 i = 1#1)) (hc3 : ¬(k0_cond4 i = 1#1))
    (x : Vec F S1024x1024 .f32) (xs : Vec F S128x4x1024 .f32) (gf : Vec F S1x1024 .f32) (u : Vec F S1024x512 .f32) (w : Vec F S512x1024 .f32) (gl : Vec F S1x1024 .f32) (y : Vec F S1024x1024 .f32) (ys : Vec F S128x4x1024 .f32) (w1 : Vec F S8x1024x512 .bf16) (w2 : Vec F S8x512x1024 .bf16) (h : Vec F S512x1024 .bf16) (a : Vec F S512x1024 .f32) (E : Set ℕ) (K : PUnit → sProp 𝕄) :
    iprop(Held arg1 arg2 arg3 arg4 arg5 arg6 arg7 arg8 arg9 arg10 arg11 arg12 c x xs gf u w gl y ys w1 w2 h a ∗ (Held arg1 arg2 arg3 arg4 arg5 arg6 arg7 arg8 arg9 arg10 arg11 arg12 c x xs gf u w gl y ys (fill1 i w1 u) (fill2 i w2 w) (k0_pay2 xs gf) (k0_pay8 u w (k0_pay3 xs) (k0_pay2 xs gf)) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact hc2 | sl_exact hc3)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; rw [View.read_writes_cons_put _ _ _ _ _ rfl, View.writes_nil, harg9.read_unread]; rw [View.readAt_full, harg4.read_unread]; rfl
  isplitl [H10]
  · iexists _; isplitr; swap; · iexact H10
    ipureintro; rw [View.read_writes_cons_put _ _ _ _ _ rfl, View.writes_nil, harg10.read_unread]; rw [View.readAt_full, harg5.read_unread]; rfl
  isplitl [H11]
  · iexists _; isplitr; swap; · iexact H11
    ipureintro; delta runA.sl.H11_1; rw [View.read_writes_full, View.readAt_full arg2.view, View.readAt_full arg3.view, harg2.read_unread, harg3.read_unread]
  iexists _; isplitr; swap; · iexact H12
  ipureintro; rw [View.read_writes_full]; delta runA.sl.v24 runA.sl.v25 runA.sl.H12_1 runA.sl.H11_1; rw [View.readCov_full, View.readCov_full, View.readAt_full arg2.view, View.readAt_full arg3.view, View.readAt_full arg4.view, View.readAt_full arg5.view, harg2.read_unread, harg3.read_unread, harg4.read_unread, harg5.read_unread]

set_option maxHeartbeats 1000000 in
/-- A chunk point that is neither the first nor the last. -/
theorem runB (c : Dev nD) (i : grid0.Coords) (hc0 : ¬((Scalar.cmpi .ne (Scalar.extui (Scalar.cmpi .eq (BitVec.ofNat 32 (i 0).val) 0#32)) 0#32) = 1#1)) (hc1 : (k0_cond2 i = 1#1)) (hc2 : ¬(k0_cond3 i = 1#1)) (hc3 : ¬(k0_cond4 i = 1#1))
    (x : Vec F S1024x1024 .f32) (xs : Vec F S128x4x1024 .f32) (gf : Vec F S1x1024 .f32) (u : Vec F S1024x512 .f32) (w : Vec F S512x1024 .f32) (gl : Vec F S1x1024 .f32) (y : Vec F S1024x1024 .f32) (ys : Vec F S128x4x1024 .f32) (w1 : Vec F S8x1024x512 .bf16) (w2 : Vec F S8x512x1024 .bf16) (h : Vec F S512x1024 .bf16) (a : Vec F S512x1024 .f32) (E : Set ℕ) (K : PUnit → sProp 𝕄) :
    iprop(Held arg1 arg2 arg3 arg4 arg5 arg6 arg7 arg8 arg9 arg10 arg11 arg12 c x xs gf u w gl y ys w1 w2 h a ∗ (Held arg1 arg2 arg3 arg4 arg5 arg6 arg7 arg8 arg9 arg10 arg11 arg12 c x xs gf u w gl y ys (fill1 i w1 u) (fill2 i w2 w) h (k0_pay8 u w a h) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact hc2 | sl_exact hc3)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; rw [View.read_writes_cons_put _ _ _ _ _ rfl, View.writes_nil, harg9.read_unread]; rw [View.readAt_full, harg4.read_unread]; rfl
  isplitl [H10]
  · iexists _; isplitr; swap; · iexact H10
    ipureintro; rw [View.read_writes_cons_put _ _ _ _ _ rfl, View.writes_nil, harg10.read_unread]; rw [View.readAt_full, harg5.read_unread]; rfl
  isplitl [H11]
  · iexists _; isplitr; swap; · iexact H11
    ipureintro; exact harg11.read_unread _
  iexists _; isplitr; swap; · iexact H12
  ipureintro; rw [View.read_writes_full, View.readAt_full arg4.view, View.readAt_full arg5.view, View.readAt_full arg12.view, View.readAt_full arg11.view, harg4.read_unread, harg5.read_unread, harg11.read_unread, harg12.read_unread]

set_option maxHeartbeats 1000000 in
/-- The last chunk point. -/
theorem runC (c : Dev nD) (i : grid0.Coords) (hc0 : ¬((Scalar.cmpi .ne (Scalar.extui (Scalar.cmpi .eq (BitVec.ofNat 32 (i 0).val) 0#32)) 0#32) = 1#1)) (hc1 : (k0_cond2 i = 1#1)) (hc2 : (k0_cond3 i = 1#1)) (hc3 : ¬(k0_cond4 i = 1#1))
    (x : Vec F S1024x1024 .f32) (xs : Vec F S128x4x1024 .f32) (gf : Vec F S1x1024 .f32) (u : Vec F S1024x512 .f32) (w : Vec F S512x1024 .f32) (gl : Vec F S1x1024 .f32) (y : Vec F S1024x1024 .f32) (ys : Vec F S128x4x1024 .f32) (w1 : Vec F S8x1024x512 .bf16) (w2 : Vec F S8x512x1024 .bf16) (h : Vec F S512x1024 .bf16) (a : Vec F S512x1024 .f32) (E : Set ℕ) (K : PUnit → sProp 𝕄) :
    iprop(Held arg1 arg2 arg3 arg4 arg5 arg6 arg7 arg8 arg9 arg10 arg11 arg12 c x xs gf u w gl y ys w1 w2 h a ∗ (Held arg1 arg2 arg3 arg4 arg5 arg6 arg7 arg8 arg9 arg10 arg11 arg12 c x xs gf u w gl y (k0_pay9 (k0_pay8 u w a h) gl) (fill1 i w1 u) (fill2 i w2 w) h (k0_pay8 u w a h) -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton]; unfold cc0_ffn_skel
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact hc2 | sl_exact hc3)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; exact harg7.read_unread _
  isplitl [H8]
  · iexists _; isplitr; swap; · iexact H8
    ipureintro; rw [View.read_writes_full]; delta runC.sl.v12 runC.sl.H12_1; rw [View.readCov_full, View.readAt_full arg4.view, View.readAt_full arg5.view, View.readAt_full arg12.view, View.readAt_full arg11.view, View.readAt_full arg6.view, harg4.read_unread, harg5.read_unread, harg6.read_unread, harg11.read_unread, harg12.read_unread]
  isplitl [H9]
  · iexists _; isplitr; swap; · iexact H9
    ipureintro; rw [View.read_writes_cons_put _ _ _ _ _ rfl, View.writes_nil, harg9.read_unread]; rw [View.readAt_full, harg4.read_unread]; rfl
  isplitl [H10]
  · iexists _; isplitr; swap; · iexact H10
    ipureintro; rw [View.read_writes_cons_put _ _ _ _ _ rfl, View.writes_nil, harg10.read_unread]; rw [View.readAt_full, harg5.read_unread]; rfl
  isplitl [H11]
  · iexists _; isplitr; swap; · iexact H11
    ipureintro; exact harg11.read_unread _
  iexists _; isplitr; swap; · iexact H12
  ipureintro; delta runC.sl.H12_1; rw [View.read_writes_full, View.readAt_full arg4.view, View.readAt_full arg5.view, View.readAt_full arg12.view, View.readAt_full arg11.view, harg4.read_unread, harg5.read_unread, harg11.read_unread, harg12.read_unread]

set_option maxHeartbeats 1000000 in
/-- A tile point. -/
theorem runD (c : Dev nD) (i : grid0.Coords) (hc0 : ¬((Scalar.cmpi .ne (Scalar.extui (Scalar.cmpi .eq (BitVec.ofNat 32 (i 0).val) 0#32)) 0#32) = 1#1)) (hc1 : ¬(k0_cond2 i = 1#1)) (hc2 : ¬(k0_cond3 i = 1#1)) (hc3 : (k0_cond4 i = 1#1))
    (x : Vec F S1024x1024 .f32) (xs : Vec F S128x4x1024 .f32) (gf : Vec F S1x1024 .f32) (u : Vec F S1024x512 .f32) (w : Vec F S512x1024 .f32) (gl : Vec F S1x1024 .f32) (y : Vec F S1024x1024 .f32) (ys : Vec F S128x4x1024 .f32) (w1 : Vec F S8x1024x512 .bf16) (w2 : Vec F S8x512x1024 .bf16) (h : Vec F S512x1024 .bf16) (a : Vec F S512x1024 .f32) (E : Set ℕ) (K : PUnit → sProp 𝕄) :
    iprop(Held arg1 arg2 arg3 arg4 arg5 arg6 arg7 arg8 arg9 arg10 arg11 arg12 c x xs gf u w gl y ys w1 w2 h a ∗ (Held arg1 arg2 arg3 arg4 arg5 arg6 arg7 arg8 arg9 arg10 arg11 arg12 c x xs gf u w gl (tile x gf gl (slot1 w1) (slot2 w2)) ys w1 w2 h a -∗ K ⟨⟩))
      ⊢ wp frame (wpE (defs₀ (F := F)) Variants.none c none) E (cc0_ffn i arg1 harg1 arg2 harg2 arg3 harg3 arg4 harg4 arg5 harg5 arg6 harg6 arg7 harg7 arg8 harg8 arg9 harg9 arg10 harg10 arg11 harg11 arg12 harg12) K := by
  simp only [cc0_ffn_eq_skeleton, k0_part1_eq_skeleton, k0_part2_eq_skeleton, k0_part3_eq_skeleton]; unfold cc0_ffn_skel
  unfold Held owns
  iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
  sl_exec (disch := first | sl_exact hc0 | sl_exact hc1 | sl_exact hc2 | sl_exact hc3)
  sl_step
  iapply Hk
  isplitl [H1]
  · iexists _; isplitr; swap; · iexact H1
    ipureintro; exact harg1.read_unread _
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H7]
  · iexists _; isplitr; swap; · iexact H7
    ipureintro; rw [View.read_writes_full]; delta runD.sl.r_7 runD.sl.r_8 runD.sl.r_9; delta runD.sl.r_4 runD.sl.r_5 runD.sl.r_6; delta runD.sl.r_1 runD.sl.r_2 runD.sl.r_3; delta runD.sl.r; rw [ ld1 arg9 harg9 w1 0 (off := ![0, 0, 0]) rfl, ld2 arg10 harg10 w2 0 (off := ![0, 0, 0]) rfl, ld1 arg9 harg9 w1 1 (off := ![1, 0, 0]) rfl, ld2 arg10 harg10 w2 1 (off := ![1, 0, 0]) rfl, ld1 arg9 harg9 w1 2 (off := ![2, 0, 0]) rfl, ld2 arg10 harg10 w2 2 (off := ![2, 0, 0]) rfl, ld1 arg9 harg9 w1 3 (off := ![3, 0, 0]) rfl, ld2 arg10 harg10 w2 3 (off := ![3, 0, 0]) rfl, ld1 arg9 harg9 w1 4 (off := ![4, 0, 0]) rfl, ld2 arg10 harg10 w2 4 (off := ![4, 0, 0]) rfl, ld1 arg9 harg9 w1 5 (off := ![5, 0, 0]) rfl, ld2 arg10 harg10 w2 5 (off := ![5, 0, 0]) rfl, ld1 arg9 harg9 w1 6 (off := ![6, 0, 0]) rfl, ld2 arg10 harg10 w2 6 (off := ![6, 0, 0]) rfl, ld1 arg9 harg9 w1 7 (off := ![7, 0, 0]) rfl, ld2 arg10 harg10 w2 7 (off := ![7, 0, 0]) rfl]; rw [View.readAt_full arg1.view, View.readAt_full arg3.view, View.readAt_full arg6.view, harg1.read_unread, harg3.read_unread, harg6.read_unread]; rfl
  isplitl [H8]
  · iexists _; isplitr; swap; · iexact H8
    ipureintro; exact harg8.read_unread _
  isplitl [H9]
  · iexists _; isplitr; swap; · iexact H9
    ipureintro; exact harg9.read_unread _
  isplitl [H10]
  · iexists _; isplitr; swap; · iexact H10
    ipureintro; exact harg10.read_unread _
  isplitl [H11]
  · iexists _; isplitr; swap; · iexact H11
    ipureintro; exact harg11.read_unread _
  iexists _; isplitr; swap; · iexact H12
  ipureintro; exact harg12.read_unread _

end

end Cert.Kernel2Ideal.Ffn

end
-- ==== Proof.FfnFrame.lean ====
/-
  The feed-forward kernel's run: the invariant between grid points, the body obligation at every point, and the
  launch. After `n` points the first `n` slots of the weight scratches hold the first `n` weight chunks, the row
  scratch holds the normalised sample rows and the accumulator the sample rows plus the first `n` contributions.
-/
module

public import proofs.«01_k».proof.Proof.FfnRun
public import Idealize.ShloMosaic.Lib.Pipeline.TableIdle
public import Idealize.ShloMosaic.Lib.Claim

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid points -/

/-- The `n`-th grid point. -/
def pt (n : ℕ) (h : n < 24) : Fin cfg0.N := ⟨n, lt_of_lt_of_eq h (show 24 = cfg0.N from N_0.symm)⟩

theorem pt_val (t : Fin cfg0.N) (h : t.val < 24) : pt t.val h = t := rfl

theorem first_iff : ∀ t : Fin cfg0.N, (Scalar.cmpi .ne (Scalar.extui (Scalar.cmpi .eq (BitVec.ofNat 32 ((grid0.coords t) 0).val) 0#32)) 0#32) = 1#1 ↔ t.val = 0 :=
  (by decide +kernel : ∀ t : Fin grid0.N, (Scalar.cmpi .ne (Scalar.extui (Scalar.cmpi .eq (BitVec.ofNat 32 ((grid0.coords t) 0).val) 0#32)) 0#32) = 1#1 ↔ t.val = 0)

theorem chunk_iff : ∀ t : Fin cfg0.N, k0_cond2 (grid0.coords t) = 1#1 ↔ t.val < 8 :=
  (by decide +kernel : ∀ t : Fin grid0.N, k0_cond2 (grid0.coords t) = 1#1 ↔ t.val < 8)

theorem last_iff : ∀ t : Fin cfg0.N, k0_cond3 (grid0.coords t) = 1#1 ↔ t.val = 7 :=
  (by decide +kernel : ∀ t : Fin grid0.N, k0_cond3 (grid0.coords t) = 1#1 ↔ t.val = 7)

theorem tile_iff : ∀ t : Fin cfg0.N, k0_cond4 (grid0.coords t) = 1#1 ↔ 8 ≤ t.val :=
  (by decide +kernel : ∀ t : Fin grid0.N, k0_cond4 (grid0.coords t) = 1#1 ↔ 8 ≤ t.val)

/-- A chunk point's slot of the first weight scratch is its own number. -/
theorem off1_eq : ∀ t : Fin cfg0.N, t.val < 8 → k0_off1 (grid0.coords t) = ![t.val, 0, 0] :=
  (by decide +kernel : ∀ t : Fin grid0.N, t.val < 8 → k0_off1 (grid0.coords t) = ![t.val, 0, 0])

/-- A chunk point's slot of the second weight scratch is its own number. -/
theorem off2_eq : ∀ t : Fin cfg0.N, t.val < 8 → k0_off2 (grid0.coords t) = ![t.val, 0, 0] :=
  (by decide +kernel : ∀ t : Fin grid0.N, t.val < 8 → k0_off2 (grid0.coords t) = ![t.val, 0, 0])

omit [FloatOps F] in
/-- The slots of a weight scratch after chunk `u` is put into slot `n`, read back. -/
theorem slot1_put (w1 : Vec F S8x1024x512 .bf16) (p : Vec F S1x1024x512 .bf16) (n : ℕ) (hn : n < 8) (k : Fin 8) :
    slot1 (VecWindow.put (s := S8x1024x512) w1 ![n, 0, 0] S1x1024x512.size p) k = if k.val = n then p else slot1 w1 k := by
  by_cases h : k.val = n
  · subst h; rw [if_pos rfl]
    exact VecWindow.window_put_same (s := S8x1024x512) w1 ![k.val, 0, 0] S1x1024x512.size (slot1_inb k) p
  · rw [if_neg h]
    refine VecWindow.window_put_of_disjoint (s := S8x1024x512) w1 ![n, 0, 0] S1x1024x512.size ![k.val, 0, 0] S1x1024x512.size (slot1_inb k) p 0 ?_
    show k.val + 1 ≤ n ∨ n + 1 ≤ k.val
    omega

omit [FloatOps F] in
/-- The same for the second weight scratch. -/
theorem slot2_put (w2 : Vec F S8x512x1024 .bf16) (p : Vec F S1x512x1024 .bf16) (n : ℕ) (hn : n < 8) (k : Fin 8) :
    slot2 (VecWindow.put (s := S8x512x1024) w2 ![n, 0, 0] S1x512x1024.size p) k = if k.val = n then p else slot2 w2 k := by
  by_cases h : k.val = n
  · subst h; rw [if_pos rfl]
    exact VecWindow.window_put_same (s := S8x512x1024) w2 ![k.val, 0, 0] S1x512x1024.size (slot2_inb k) p
  · rw [if_neg h]
    refine VecWindow.window_put_of_disjoint (s := S8x512x1024) w2 ![n, 0, 0] S1x512x1024.size ![k.val, 0, 0] S1x512x1024.size (slot2_inb k) p 0 ?_
    show k.val + 1 ≤ n ∨ n + 1 ≤ k.val
    omega

/-! ## What the buffers hold -/

/-- The weight chunk of chunk point `k`, as the first weight scratch keeps it. -/
def chunk1 (c : Dev nD) (k : Fin 8) : Vec F S1x1024x512 .bf16 := k0_pay6 (iblk m c 3 (pt k.val (by omega)))

/-- The weight chunk of chunk point `k`, as the second weight scratch keeps it. -/
def chunk2 (c : Dev nD) (k : Fin 8) : Vec F S1x512x1024 .bf16 := k0_pay7 (iblk m c 4 (pt k.val (by omega)))

/-- The normalised sample rows. -/
def rowsIn (c : Dev nD) : Vec F S512x1024 .bf16 := k0_pay2 (iblk m c 1 (pt 0 (by omega))) (iblk m c 2 (pt 0 (by omega)))

/-- The accumulator after `n` chunks. -/
def accAt (c : Dev nD) : ℕ → Vec F S512x1024 .f32
  | 0 => k0_pay3 (iblk m c 1 (pt 0 (by omega)))
  | n + 1 => if h : n < 8 then k0_pay8 (iblk m c 3 (pt n (by omega))) (iblk m c 4 (pt n (by omega))) (accAt c n) (rowsIn m c) else accAt c n

theorem accAt_chunk (c : Dev nD) (t : Fin cfg0.N) (h : t.val < 8) :
    accAt m c (t.val + 1) = k0_pay8 (iblk m c 3 t) (iblk m c 4 t) (accAt m c t.val) (rowsIn m c) := by
  rw [accAt, dif_pos h]; rfl

theorem accAt_tile (c : Dev nD) (n : ℕ) (h : 8 ≤ n) : accAt m c (n + 1) = accAt m c n := by
  rw [accAt, dif_neg (by omega)]

/-- The sample rows the last chunk point writes. -/
def rowsOut (c : Dev nD) : Vec F S128x4x1024 .f32 := k0_pay9 (accAt m c 8) (iblk m c 5 (pt 7 (by omega)))

/-- What tile point `t` writes. -/
def tileOut (c : Dev nD) (t : Fin cfg0.N) : Vec F S1024x1024 .f32 :=
  tile (iblk m c 0 t) (iblk m c 2 t) (iblk m c 5 t) (chunk1 m c) (chunk2 m c)

abbrev sc0 : Memref sig .tc .vmem S8x1024x512 .bf16 := Memref.whole cc0_scratch0
abbrev sc1 : Memref sig .tc .vmem S8x512x1024 .bf16 := Memref.whole cc0_scratch1
abbrev sc2 : Memref sig .tc .vmem S512x1024 .bf16 := Memref.whole cc0_scratch2
abbrev sc3 : Memref sig .tc .vmem S512x1024 .f32 := Memref.whole cc0_scratch3

/-- The launch's invariant with the four scratch buffers held at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-- The scratch buffers after `n` points, `n` at least one. -/
def Inv (c : Dev nD) (n : ℕ) : sProp 𝕄 :=
  iprop((∃ w1, ⌜∀ k : Fin 8, k.val < n → slot1 w1 k = chunk1 m c k⌝ ∗ owns (c : Thread nD τ) sc0 fullShare w1)
    ∗ (∃ w2, ⌜∀ k : Fin 8, k.val < n → slot2 w2 k = chunk2 m c k⌝ ∗ owns (c : Thread nD τ) sc1 fullShare w2)
    ∗ owns (c : Thread nD τ) sc2 fullShare (rowsIn m c) ∗ owns (c : Thread nD τ) sc3 fullShare (accAt m c n) ∗ (∃ r, prngReg c r))

/-- The invariant before point `n`. -/
def PhiS (c : Dev nD) : ℕ → sProp 𝕄
  | 0 => Pipeline.ΦA spec0 c
  | n + 1 => Inv m c (n + 1)

theorem PhiS_pos (c : Dev nD) (n : ℕ) (h : n ≠ 0) : PhiS m c n = Inv m c n := by
  obtain ⟨k, rfl⟩ := Nat.exists_eq_succ_of_ne_zero h; rfl

/-- The proof data: the inputs keep their blocks; the prompt tile's window is left at the tile's value, the sample
    rows' window at the finished rows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileOut m c t
    | ⟨7, _⟩ => rowsOut m c
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = tileOut m c t := by dsimp only [dats]
theorem after_7 (c : Dev nD) (t : Fin cfg0.N) : (dats m 0 c).after 7 t = rowsOut m c := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## What each window is left at -/

theorem idle_6 : ∀ t : Fin cfg0.N, cfg0.idle 6 (grid0.coords t) = true ↔ t.val < 8 :=
  (by decide +kernel : ∀ t : Fin grid0.N, cfg0.idle 6 (grid0.coords t) = true ↔ t.val < 8)

theorem idle_7 : ∀ t : Fin cfg0.N, cfg0.idle 7 (grid0.coords t) = true ↔ t.val ≠ 7 :=
  (by decide +kernel : ∀ t : Fin grid0.N, cfg0.idle 7 (grid0.coords t) = true ↔ t.val ≠ 7)

theorem flush_6 : ∀ t : Fin cfg0.N, t.val < 8 → (cfg0.win 6).flush t = false :=
  (by decide +kernel : ∀ t : Fin grid0.N, t.val < 8 → (cfg0.win 6).flush t = false)

theorem flush_7 : ∀ t : Fin cfg0.N, t.val ≠ 23 → (cfg0.win 7).flush t = false :=
  (by decide +kernel : ∀ t : Fin grid0.N, t.val ≠ 23 → (cfg0.win 7).flush t = false)

theorem fresh_7 : ∀ t : Fin cfg0.N, t.val = 23 → cfg0.fresh 7 t.val = false :=
  (by decide +kernel : ∀ t : Fin grid0.N, t.val = 23 → cfg0.fresh 7 t.val = false)

/-- At the last point the sample rows' window still holds the finished rows. -/
theorem before_7_last (c : Dev nD) (t : Fin cfg0.N) (ht : t.val = 23) (d) : (dats m 0 c).before 7 t d = rowsOut m c := by
  rw [(dats m 0 c).before_out_traj 7 rfl (fun _ _ => rfl) (fun t _ _ _ => by rw [after_7, after_7]) t.val t rfl d,
    fresh_7 t ht, after_7]
  rfl

theorem leaves_in (c : Dev nD) (t : Fin cfg0.N) (w : Fin cfg0.W) (hw : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from hw]

/-- A point that stores nothing into the prompt tile's window leaves it as found. -/
theorem leaves_6_idle (c : Dev nD) (t : Fin cfg0.N) (h : t.val < 8) (d) :
    owns (c : Thread nD τ) ((cfg0.win 6).stage (cfg0.slots t 6)) fullShare ((dats m 0 c).before 6 t d) ⊢ (dats m 0 c).leavesExact 6 t := by
  rw [(dats m 0 c).leavesExact_idle 6 t ((idle_6 t).mpr h) (flush_6 t h)]
  iintro H; iexists _; iexact H

/-- A point that stores nothing into the sample rows' window leaves it as found, also the last point, which writes
    the window back. -/
theorem leaves_7_idle (c : Dev nD) (t : Fin cfg0.N) (h : t.val ≠ 7) (d) :
    owns (c : Thread nD τ) ((cfg0.win 7).stage (cfg0.slots t 7)) fullShare ((dats m 0 c).before 7 t d) ⊢ (dats m 0 c).leavesExact 7 t := by
  by_cases ht : t.val = 23
  · rw [before_7_last m c t ht]
    unfold Dat.leavesExact
    rw [show cfg0.idle 7 (cfg0.grid.coords t) = true from (idle_7 t).mpr h]
    rw [show (cfg0.win 7).flush t = true from (flush0_7 t).mpr (by omega), after_7]
  · rw [(dats m 0 c).leavesExact_idle 7 t ((idle_7 t).mpr h) (flush_7 t ht)]
    iintro H; iexists _; iexact H

/-! ## The body obligation -/

/-- The current staging buffer of each window. -/
abbrev ms_0 (t : Fin cfg0.N) : Memref sig .tc .vmem S1024x1024 .f32 := win0_0.stage (cfg0.slots t 0)
abbrev ms_1 (t : Fin cfg0.N) : Memref sig .tc .vmem S128x4x1024 .f32 := win0_1.stage (cfg0.slots t 1)
abbrev ms_2 (t : Fin cfg0.N) : Memref sig .tc .vmem S1x1024 .f32 := win0_2.stage (cfg0.slots t 2)
abbrev ms_3 (t : Fin cfg0.N) : Memref sig .tc .vmem S1024x512 .f32 := win0_3.stage (cfg0.slots t 3)
abbrev ms_4 (t : Fin cfg0.N) : Memref sig .tc .vmem S512x1024 .f32 := win0_4.stage (cfg0.slots t 4)
abbrev ms_5 (t : Fin cfg0.N) : Memref sig .tc .vmem S1x1024 .f32 := win0_5.stage (cfg0.slots t 5)
abbrev ms_6 (t : Fin cfg0.N) : Memref sig .tc .vmem S1024x1024 .f32 := win0_6.stage (cfg0.slots t 6)
abbrev ms_7 (t : Fin cfg0.N) : Memref sig .tc .vmem S128x4x1024 .f32 := win0_7.stage (cfg0.slots t 7)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The continuation of the body at point `t`: from the buffers after the body, the post, given that the scratch
    buffers satisfy the next invariant and the two output windows hold what they must. -/
theorem close_body (c : Dev nD) (t : Fin cfg0.N) (y : Vec F S1024x1024 .f32) (ys : Vec F S128x4x1024 .f32)
    (w1 : Vec F S8x1024x512 .bf16) (w2 : Vec F S8x512x1024 .bf16)
    (hy : owns (c : Thread nD τ) (ms_6 t) fullShare y ⊢ (dats m 0 c).leavesExact 6 t)
    (hys : owns (c : Thread nD τ) (ms_7 t) fullShare ys ⊢ (dats m 0 c).leavesExact 7 t)
    (h1 : ∀ k : Fin 8, k.val < t.val + 1 → slot1 w1 k = chunk1 m c k)
    (h2 : ∀ k : Fin 8, k.val < t.val + 1 → slot2 w2 k = chunk2 m c k) :
    iprop((∃ r, prngReg c r) ∗ (dats m 0 c).owesAt () t.castSucc)
      ⊢ iprop(Held (ms_0 t) (ms_1 t) (ms_2 t) (ms_3 t) (ms_4 t) (ms_5 t) (ms_6 t) (ms_7 t) sc0 sc1 sc2 sc3 c
          (iblk m c 0 t) (iblk m c 1 t) (iblk m c 2 t) (iblk m c 3 t) (iblk m c 4 t) (iblk m c 5 t) y ys w1 w2 (rowsIn m c) (accAt m c (t.val + 1))
        -∗ bodyPost m c t) := by
  unfold bodyPost Held
  rw [leaves_in m c t 0 rfl, leaves_in m c t 1 rfl, leaves_in m c t 2 rfl, leaves_in m c t 3 rfl, leaves_in m c t 4 rfl,
    leaves_in m c t 5 rfl, after_0, after_1, after_2, after_3, after_4, after_5]
  rw [show (dats m 0 c).owesAt () t.succ = (dats m 0 c).owesAt () t.castSucc from rfl]
  rw [show (dats m 0 c).Φ t.succ = Inv m c (t.val + 1) from rfl]
  unfold Inv
  iintro ⟨Hg, Ho⟩ ⟨H0, H1, H2, H3, H4, H5, H6, H7, HS0, HS1, HS2, HS3⟩
  isplitl [HS0 HS1 HS2 HS3 Hg]
  · isplitl [HS0]
    · iexists _; isplitr; swap; · iexact HS0
      ipureintro; exact h1
    isplitl [HS1]
    · iexists _; isplitr; swap; · iexact HS1
      ipureintro; exact h2
    isplitl [HS2]; · iexact HS2
    isplitl [HS3]; · iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply hy; iexact H6
  iapply hys; iexact H7

/-- The buffers at a point after the first, as the body's triples take them. -/
theorem open_body (c : Dev nD) (t : Fin cfg0.N) (h : t.val ≠ 0) :
    bodyPre m c t ⊢ iprop(∃ d6 d7 w1 w2, ⌜(∀ k : Fin 8, k.val < t.val → slot1 w1 k = chunk1 m c k) ∧ (∀ k : Fin 8, k.val < t.val → slot2 w2 k = chunk2 m c k)⌝
      ∗ Held (ms_0 t) (ms_1 t) (ms_2 t) (ms_3 t) (ms_4 t) (ms_5 t) (ms_6 t) (ms_7 t) sc0 sc1 sc2 sc3 c (iblk m c 0 t) (iblk m c 1 t) (iblk m c 2 t) (iblk m c 3 t) (iblk m c 4 t) (iblk m c 5 t)
          ((dats m 0 c).before 6 t d6) ((dats m 0 c).before 7 t d7) w1 w2 (rowsIn m c) (accAt m c t.val)
      ∗ (∃ r, prngReg c r) ∗ (dats m 0 c).owesAt () t.castSucc) := by
  unfold bodyPre
  simp only [before_0, before_1, before_2, before_3, before_4, before_5]
  rw [show (dats m 0 c).Φ t.castSucc = PhiS m c t.val from rfl, PhiS_pos m c _ h]
  unfold Inv Held
  iintro ⟨⟨⟨%w1, %h1, HS0⟩, ⟨%w2, %h2, HS1⟩, HS2, HS3, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iexists d6, d7, w1, w2
  isplitr; · ipureintro; exact ⟨h1, h2⟩
  isplitr [Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iexact HS3
  isplitl [Hg]; · iexact Hg
  iexact Ho

/-- The buffers at the first point: the scratch at anything. -/
theorem open_body_first (c : Dev nD) (t : Fin cfg0.N) (h : t.val = 0) :
    bodyPre m c t ⊢ iprop(∃ d6 d7 w1 w2 hs a,
      Held (ms_0 t) (ms_1 t) (ms_2 t) (ms_3 t) (ms_4 t) (ms_5 t) (ms_6 t) (ms_7 t) sc0 sc1 sc2 sc3 c (iblk m c 0 t) (iblk m c 1 t) (iblk m c 2 t) (iblk m c 3 t) (iblk m c 4 t) (iblk m c 5 t)
          ((dats m 0 c).before 6 t d6) ((dats m 0 c).before 7 t d7) w1 w2 hs a
      ∗ (∃ r, prngReg c r) ∗ (dats m 0 c).owesAt () t.castSucc) := by
  unfold bodyPre
  simp only [before_0, before_1, before_2, before_3, before_4, before_5]
  rw [show (dats m 0 c).Φ t.castSucc = PhiS m c t.val from rfl, h, show PhiS m c 0 = Pipeline.ΦA spec0 c from rfl, PhiA_eq]
  unfold Held
  iintro ⟨⟨⟨⟨%w1, HS0⟩, ⟨%w2, HS1⟩, ⟨%hs, HS2⟩, ⟨%a, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iexists d6, d7, w1, w2, hs, a
  isplitr [Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iexact HS3
  isplitl [Hg]; · iexact Hg
  iexact Ho

/-- The first slots of the first weight scratch after a chunk point. -/
theorem fill1_spec (c : Dev nD) (t : Fin cfg0.N) (h : t.val < 8) (w1 : Vec F S8x1024x512 .bf16)
    (h1 : ∀ k : Fin 8, k.val < t.val → slot1 w1 k = chunk1 m c k) :
    ∀ k : Fin 8, k.val < t.val + 1 → slot1 (fill1 (grid0.coords t) w1 (iblk m c 3 t)) k = chunk1 m c k := fun k hk => by
  unfold fill1
  rw [off1_eq t h, slot1_put _ _ _ h]
  by_cases e : k.val = t.val
  · rw [if_pos e]
    unfold chunk1
    rw [show pt k.val (by omega) = t from Fin.ext e]
  · rw [if_neg e]; exact h1 k (by omega)

/-- The first slots of the second weight scratch after a chunk point. -/
theorem fill2_spec (c : Dev nD) (t : Fin cfg0.N) (h : t.val < 8) (w2 : Vec F S8x512x1024 .bf16)
    (h2 : ∀ k : Fin 8, k.val < t.val → slot2 w2 k = chunk2 m c k) :
    ∀ k : Fin 8, k.val < t.val + 1 → slot2 (fill2 (grid0.coords t) w2 (iblk m c 4 t)) k = chunk2 m c k := fun k hk => by
  unfold fill2
  rw [off2_eq t h, slot2_put _ _ _ h]
  by_cases e : k.val = t.val
  · rw [if_pos e]
    unfold chunk2
    rw [show pt k.val (by omega) = t from Fin.ext e]
  · rw [if_neg e]; exact h2 k (by omega)

/-- The body at the first point. -/
theorem body_A (c : Dev nD) (t : Fin cfg0.N) (h0 : t.val = 0) :
    bodyPre m c t ⊢ wp frame (wpE (defs₀ (F := F)) Variants.none c none) Set.univ (bodyAt0 t) (fun _ => bodyPost m c t) := by
  refine (open_body_first m c t h0).trans ?_
  iintro ⟨%d6, %d7, %w1, %w2, %hs, %a, H, Hr⟩
  have hc := close_body m c t _ _ _ _ (leaves_6_idle m c t (by omega) d6) (leaves_7_idle m c t (by omega) d7)
    (fill1_spec m c t (by omega) w1 fun k hk => absurd hk (by omega)) (fill2_spec m c t (by omega) w2 fun k hk => absurd hk (by omega))
  have ha : accAt m c (t.val + 1) = k0_pay8 (iblk m c 3 t) (iblk m c 4 t) (k0_pay3 (iblk m c 1 t)) (k0_pay2 (iblk m c 1 t) (iblk m c 2 t)) := by
    rw [accAt_chunk m c t (by omega), h0]; unfold rowsIn; rw [show pt 0 (by omega) = t from Fin.ext h0.symm, accAt, show pt 0 (by omega) = t from Fin.ext h0.symm]
  have hr : rowsIn m c = k0_pay2 (iblk m c 1 t) (iblk m c 2 t) := by
    unfold rowsIn; rw [show pt 0 (by omega) = t from Fin.ext h0.symm]
  rw [ha, hr] at hc
  ihave Hc := hc $$ Hr
  iapply (runA (ms_0 t) (hstage0_0 ((cfg0.slots t 0).cast nbuf0_0)) (ms_1 t) (hstage0_1 ((cfg0.slots t 1).cast nbuf0_1)) (ms_2 t) (hstage0_2 ((cfg0.slots t 2).cast nbuf0_2)) (ms_3 t) (hstage0_3 ((cfg0.slots t 3).cast nbuf0_3)) (ms_4 t) (hstage0_4 ((cfg0.slots t 4).cast nbuf0_4)) (ms_5 t) (hstage0_5 ((cfg0.slots t 5).cast nbuf0_5)) (ms_6 t) (hstage0_6 ((cfg0.slots t 6).cast nbuf0_6)) (ms_7 t) (hstage0_7 ((cfg0.slots t 7).cast nbuf0_7)) sc0 (Memref.isWhole_whole _) sc1 (Memref.isWhole_whole _) sc2 (Memref.isWhole_whole _) sc3 (Memref.isWhole_whole _) c (grid0.coords t) ((first_iff t).mpr h0) ((chunk_iff t).mpr (by omega)) (fun h => absurd ((last_iff t).mp h) (by omega)) (fun h => absurd ((tile_iff t).mp h) (by omega))
    (iblk m c 0 t) (iblk m c 1 t) (iblk m c 2 t) (iblk m c 3 t) (iblk m c 4 t) (iblk m c 5 t) ((dats m 0 c).before 6 t d6) ((dats m 0 c).before 7 t d7) w1 w2 hs a Set.univ _)
  isplitl [H]; · iexact H
  iexact Hc

/-- The body at a chunk point that is neither the first nor the last. -/
theorem body_B (c : Dev nD) (t : Fin cfg0.N) (h0 : t.val ≠ 0) (h7 : t.val < 7) :
    bodyPre m c t ⊢ wp frame (wpE (defs₀ (F := F)) Variants.none c none) Set.univ (bodyAt0 t) (fun _ => bodyPost m c t) := by
  refine (open_body m c t h0).trans ?_
  iintro ⟨%d6, %d7, %w1, %w2, %hw, H, Hr⟩
  have hc := close_body m c t _ _ _ _ (leaves_6_idle m c t (by omega) d6) (leaves_7_idle m c t (by omega) d7)
    (fill1_spec m c t (by omega) w1 hw.1) (fill2_spec m c t (by omega) w2 hw.2)
  rw [accAt_chunk m c t (by omega)] at hc
  ihave Hc := hc $$ Hr
  iapply (runB (ms_0 t) (hstage0_0 ((cfg0.slots t 0).cast nbuf0_0)) (ms_1 t) (hstage0_1 ((cfg0.slots t 1).cast nbuf0_1)) (ms_2 t) (hstage0_2 ((cfg0.slots t 2).cast nbuf0_2)) (ms_3 t) (hstage0_3 ((cfg0.slots t 3).cast nbuf0_3)) (ms_4 t) (hstage0_4 ((cfg0.slots t 4).cast nbuf0_4)) (ms_5 t) (hstage0_5 ((cfg0.slots t 5).cast nbuf0_5)) (ms_6 t) (hstage0_6 ((cfg0.slots t 6).cast nbuf0_6)) (ms_7 t) (hstage0_7 ((cfg0.slots t 7).cast nbuf0_7)) sc0 (Memref.isWhole_whole _) sc1 (Memref.isWhole_whole _) sc2 (Memref.isWhole_whole _) sc3 (Memref.isWhole_whole _) c (grid0.coords t) (fun h => absurd ((first_iff t).mp h) h0) ((chunk_iff t).mpr (by omega)) (fun h => absurd ((last_iff t).mp h) (by omega)) (fun h => absurd ((tile_iff t).mp h) (by omega))
    (iblk m c 0 t) (iblk m c 1 t) (iblk m c 2 t) (iblk m c 3 t) (iblk m c 4 t) (iblk m c 5 t) ((dats m 0 c).before 6 t d6) ((dats m 0 c).before 7 t d7) w1 w2 (rowsIn m c) (accAt m c t.val) Set.univ _)
  isplitl [H]; · iexact H
  iexact Hc

/-- The body at the last chunk point. -/
theorem body_C (c : Dev nD) (t : Fin cfg0.N) (h7 : t.val = 7) :
    bodyPre m c t ⊢ wp frame (wpE (defs₀ (F := F)) Variants.none c none) Set.univ (bodyAt0 t) (fun _ => bodyPost m c t) := by
  refine (open_body m c t (by omega)).trans ?_
  iintro ⟨%d6, %d7, %w1, %w2, %hw, H, Hr⟩
  have hl : owns (c : Thread nD τ) (ms_7 t) fullShare (rowsOut m c) ⊢ (dats m 0 c).leavesExact 7 t := by
    rw [leaves_in m c t 7 (by rw [Bool.eq_false_iff]; exact fun h => (idle_7 t).mp h h7), after_7]
  have hc := close_body m c t _ _ _ _ (leaves_6_idle m c t (by omega) d6) hl
    (fill1_spec m c t (by omega) w1 hw.1) (fill2_spec m c t (by omega) w2 hw.2)
  have hr : rowsOut m c = k0_pay9 (accAt m c (t.val + 1)) (iblk m c 5 t) := by
    unfold rowsOut; rw [show pt 7 (by omega) = t from Fin.ext h7.symm, h7]
  rw [hr, accAt_chunk m c t (by omega)] at hc
  ihave Hc := hc $$ Hr
  iapply (runC (ms_0 t) (hstage0_0 ((cfg0.slots t 0).cast nbuf0_0)) (ms_1 t) (hstage0_1 ((cfg0.slots t 1).cast nbuf0_1)) (ms_2 t) (hstage0_2 ((cfg0.slots t 2).cast nbuf0_2)) (ms_3 t) (hstage0_3 ((cfg0.slots t 3).cast nbuf0_3)) (ms_4 t) (hstage0_4 ((cfg0.slots t 4).cast nbuf0_4)) (ms_5 t) (hstage0_5 ((cfg0.slots t 5).cast nbuf0_5)) (ms_6 t) (hstage0_6 ((cfg0.slots t 6).cast nbuf0_6)) (ms_7 t) (hstage0_7 ((cfg0.slots t 7).cast nbuf0_7)) sc0 (Memref.isWhole_whole _) sc1 (Memref.isWhole_whole _) sc2 (Memref.isWhole_whole _) sc3 (Memref.isWhole_whole _) c (grid0.coords t) (fun h => absurd ((first_iff t).mp h) (by omega)) ((chunk_iff t).mpr (by omega)) ((last_iff t).mpr h7) (fun h => absurd ((tile_iff t).mp h) (by omega))
    (iblk m c 0 t) (iblk m c 1 t) (iblk m c 2 t) (iblk m c 3 t) (iblk m c 4 t) (iblk m c 5 t) ((dats m 0 c).before 6 t d6) ((dats m 0 c).before 7 t d7) w1 w2 (rowsIn m c) (accAt m c t.val) Set.univ _)
  isplitl [H]; · iexact H
  iexact Hc

/-- The body at a tile point. -/
theorem body_D (c : Dev nD) (t : Fin cfg0.N) (h8 : 8 ≤ t.val) :
    bodyPre m c t ⊢ wp frame (wpE (defs₀ (F := F)) Variants.none c none) Set.univ (bodyAt0 t) (fun _ => bodyPost m c t) := by
  refine (open_body m c t (by omega)).trans ?_
  iintro ⟨%d6, %d7, %w1, %w2, %hw, H, Hr⟩
  have hl : owns (c : Thread nD τ) (ms_6 t) fullShare (tileOut m c t) ⊢ (dats m 0 c).leavesExact 6 t := by
    rw [leaves_in m c t 6 (by rw [Bool.eq_false_iff]; exact fun h => absurd ((idle_6 t).mp h) (by omega)), after_6]
  have e1 : slot1 w1 = chunk1 m c := funext fun k => hw.1 k (by omega)
  have e2 : slot2 w2 = chunk2 m c := funext fun k => hw.2 k (by omega)
  have hc := close_body m c t _ _ w1 w2 hl (leaves_7_idle m c t (by omega) d7)
    (fun k _ => hw.1 k (by omega)) (fun k _ => hw.2 k (by omega))
  rw [accAt_tile m c _ h8, show tileOut m c t = tile (iblk m c 0 t) (iblk m c 2 t) (iblk m c 5 t) (slot1 w1) (slot2 w2) from by rw [e1, e2]; rfl] at hc
  ihave Hc := hc $$ Hr
  iapply (runD (ms_0 t) (hstage0_0 ((cfg0.slots t 0).cast nbuf0_0)) (ms_1 t) (hstage0_1 ((cfg0.slots t 1).cast nbuf0_1)) (ms_2 t) (hstage0_2 ((cfg0.slots t 2).cast nbuf0_2)) (ms_3 t) (hstage0_3 ((cfg0.slots t 3).cast nbuf0_3)) (ms_4 t) (hstage0_4 ((cfg0.slots t 4).cast nbuf0_4)) (ms_5 t) (hstage0_5 ((cfg0.slots t 5).cast nbuf0_5)) (ms_6 t) (hstage0_6 ((cfg0.slots t 6).cast nbuf0_6)) (ms_7 t) (hstage0_7 ((cfg0.slots t 7).cast nbuf0_7)) sc0 (Memref.isWhole_whole _) sc1 (Memref.isWhole_whole _) sc2 (Memref.isWhole_whole _) sc3 (Memref.isWhole_whole _) c (grid0.coords t) (fun h => absurd ((first_iff t).mp h) (by omega)) (fun h => absurd ((chunk_iff t).mp h) (by omega)) (fun h => absurd ((last_iff t).mp h) (by omega)) ((tile_iff t).mpr h8)
    (iblk m c 0 t) (iblk m c 1 t) (iblk m c 2 t) (iblk m c 3 t) (iblk m c 4 t) (iblk m c 5 t) ((dats m 0 c).before 6 t d6) ((dats m 0 c).before 7 t d7) w1 w2 (rowsIn m c) (accAt m c t.val) Set.univ _)
  isplitl [H]; · iexact H
  iexact Hc

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h0 : t.val = 0
  · exact body_A m c t h0
  by_cases h7 : t.val < 7
  · exact body_B m c t h0 h7
  by_cases h8 : t.val = 7
  · exact body_C m c t h8
  exact body_D m c t (by omega)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val from rfl,
    PhiS_pos m c _ (by rw [Fin.val_last]; have : cfg0.N = 24 := N_0; omega), PhiA_eq]
  unfold Inv
  iintro ⟨⟨%w1, %h1, HS0⟩, ⟨%w2, %h2, HS1⟩, HS2, HS3, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run and the frame -/

set_option backward.isDefEq.respectTransparency.types false in
/-- The launch: every window's array ends as the proof data say, every other buffer as the region found it, every
    semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Idealize.ShloMosaic.θ_run_and (frame_of m ρ (dats m) (A_eq m) (run_main m ρ)) ((θ_run defs _ _).mono (fun _ h => h.2) (run_main_quiescent m ρ))

end Cert.Kernel2Ideal.Ffn

end
-- ==== Proof.FfnBits.lean ====
/-
  The feed-forward kernel's frame at the bit-exact instance.
-/
module

public import proofs.«01_k».proof.Defs
public import proofs.«01_k».proof.Proof.FfnFrame
public import proofs.«01_k».proof.Proof.Gen.Kernel2

@[expose] public section

set_option maxRecDepth 16384

noncomputable section

namespace Cert.Proof

open Idealize.ShloMosaic Idealize.SL.Sem

set_option smartUnfolding false in
/-- The printed program and its idealized form are the same program, no rewrite having applied: one frame is the
    other's. -/
theorem frame_Kernel2 : Cert.quiescent_Kernel2 (hKernel2 := Cert.Kernel2.Gen.facts) :=
  fun m g _ => Cert.Kernel2Ideal.Ffn.frame (F := Bits) m g

end Cert.Proof
-- ==== Proof.FfnMath.lean ====
/-
  The feed-forward kernel's values at an index, over the extended reals: each payload read at one entry is the
  textbook expression of one row.
-/
module

public import proofs.«01_k».proof.Proof.FfnRun
public import Idealize.ShloMosaic.Lib.Pointwise
public import Idealize.ShloMosaic.Lib.Pipeline.ValueKit

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

/-- One row, root-mean-square normalised and scaled by `g`. -/
def norm (x g : Fin 1024 → EReal) (i : Fin 1024) : EReal :=
  x i * Ideal.rsqrt (Ideal.div (∑ k, x k * x k) (Ideal.ofBits .f32 0x44800000#32) + Ideal.ofBits .f32 0x358637BD#32) * g i

/-- One hidden unit of a row: the square of the rectified product with the unit's weights. -/
def hid (h a : Fin 1024 → EReal) : EReal := max (∑ k, h k * a k) 0 * max (∑ k, h k * a k) 0

/-- What one chunk of 512 hidden units adds to column `j` of a row. -/
def part (h : Fin 1024 → EReal) (a : Fin 1024 → Fin 512 → EReal) (b : Fin 512 → Fin 1024 → EReal) (j : Fin 1024) : EReal :=
  ∑ q, hid h (fun k => a k q) * b q j

theorem pay2_at (xs : FVec Ideal S128x4x1024 .f32) (g : FVec Ideal S1x1024 .f32) (r : Fin 512) (i : Fin 1024) :
    k0_pay2 (F := Ideal) xs g (ix2 r i)
      = norm (fun k => xs (ix3 (⟨r.val / 4, by omega⟩ : Fin 128) (⟨r.val % 4, by omega⟩ : Fin 4) k)) (fun k => g (ix2 0 k)) i := by
  pointwise [k0_pay2, k0_pay1, norm]

theorem pay3_at (xs : FVec Ideal S128x4x1024 .f32) (r : Fin 512) (i : Fin 1024) :
    k0_pay3 (F := Ideal) xs (ix2 r i) = xs (ix3 (⟨r.val / 4, by omega⟩ : Fin 128) (⟨r.val % 4, by omega⟩ : Fin 4) i) := by
  pointwise [k0_pay3, k0_pay1]

theorem pay8_at (u : FVec Ideal S1024x512 .f32) (w : FVec Ideal S512x1024 .f32) (a : FVec Ideal S512x1024 .f32) (h : FVec Ideal S512x1024 .bf16)
    (r : Fin 512) (j : Fin 1024) :
    k0_pay8 (F := Ideal) u w a h (ix2 r j)
      = a (ix2 r j) + part (fun k => h (ix2 r k)) (fun k q => u (ix2 k q)) (fun q j => w (ix2 q j)) j := by
  pointwise [k0_pay8, k0_pay4, k0_pay5, part, hid]

theorem pay9_at (a : FVec Ideal S512x1024 .f32) (g : FVec Ideal S1x1024 .f32) (s : Fin 128) (t : Fin 4) (j : Fin 1024) :
    k0_pay9 (F := Ideal) a g (ix3 s t j)
      = norm (fun k => a (ix2 (⟨s.val * 4 + t.val, by omega⟩ : Fin 512) k)) (fun k => g (ix2 0 k)) j := by
  pointwise [k0_pay9, norm]

theorem pay11_at (x : FVec Ideal S1024x1024 .f32) (g : FVec Ideal S1x1024 .f32) (r : Fin 1024) (i : Fin 1024) :
    k0_pay11 (F := Ideal) x g (ix2 r i) = norm (fun k => x (ix2 r k)) (fun k => g (ix2 0 k)) i := by
  pointwise [k0_pay11, norm]

/-- A tile's row before the last normalisation: the row plus the eight chunks' contributions, in the printed order. -/
def chain (x : Fin 1024 → EReal) (p : Fin 8 → Fin 1024 → EReal) (j : Fin 1024) : EReal :=
  x j + p 0 j + p 1 j + p 2 j + p 3 j + p 4 j + p 5 j + p 6 j + p 7 j

/-- Chunk `k`'s contribution to a row. -/
def contrib (h : Fin 1024 → EReal) (s1 : Fin 8 → FVec Ideal S1x1024x512 .bf16) (s2 : Fin 8 → FVec Ideal S1x512x1024 .bf16) (k : Fin 8) (j : Fin 1024) : EReal :=
  part h (fun i q => s1 k (ix3 0 i q)) (fun q j => s2 k (ix3 0 q j)) j

section Chunks
variable (h : FVec Ideal S1024x1024 .bf16) (x : FVec Ideal S1024x1024 .f32) (g : FVec Ideal S1x1024 .f32)
  (s1 : Fin 8 → FVec Ideal S1x1024x512 .bf16) (s2 : Fin 8 → FVec Ideal S1x512x1024 .bf16) (r j : Fin 1024)

theorem pay12_at : k0_pay12 (F := Ideal) x g (s1 0) (s2 0) (ix2 r j)
    = x (ix2 r j) + contrib (fun k => k0_pay11 (F := Ideal) x g (ix2 r k)) s1 s2 0 j := by
  pointwise [k0_pay12, contrib, part, hid]

theorem pay15_at (p : FVec Ideal S1024x1024 .f32) :
    k0_pay15 (F := Ideal) (k0_pay11 x g) p (k0_pay13 (s2 1)) (k0_pay14 x g (s1 1)) (s1 2) (s2 2) (s1 3) (s2 3) (ix2 r j)
      = p (ix2 r j) + contrib (fun k => k0_pay11 (F := Ideal) x g (ix2 r k)) s1 s2 1 j + contrib (fun k => k0_pay11 (F := Ideal) x g (ix2 r k)) s1 s2 2 j
        + contrib (fun k => k0_pay11 (F := Ideal) x g (ix2 r k)) s1 s2 3 j := by
  pointwise [k0_pay15, k0_pay13, k0_pay14, contrib, part, hid]

theorem pay18_at (p : FVec Ideal S1024x1024 .f32) :
    k0_pay18 (F := Ideal) h p (k0_pay16 (s2 4)) (k0_pay17 h (s1 4)) (s1 5) (s2 5) (s1 6) (s2 6) (ix2 r j)
      = p (ix2 r j) + contrib (fun k => h (ix2 r k)) s1 s2 4 j + contrib (fun k => h (ix2 r k)) s1 s2 5 j
        + contrib (fun k => h (ix2 r k)) s1 s2 6 j := by
  pointwise [k0_pay18, k0_pay16, k0_pay17, contrib, part, hid]

theorem pay10_at (p : FVec Ideal S1024x1024 .f32) :
    k0_pay10 (F := Ideal) p (k0_pay19 (s2 7)) (k0_pay20 h (s1 7)) g (ix2 r j)
      = norm (fun j => p (ix2 r j) + contrib (fun k => h (ix2 r k)) s1 s2 7 j) (fun k => g (ix2 0 k)) j := by
  pointwise [k0_pay10, k0_pay19, k0_pay20, contrib, part, hid, norm]

end Chunks

theorem tile_at (x : FVec Ideal S1024x1024 .f32) (gf gl : FVec Ideal S1x1024 .f32)
    (s1 : Fin 8 → FVec Ideal S1x1024x512 .bf16) (s2 : Fin 8 → FVec Ideal S1x512x1024 .bf16) (r j : Fin 1024) :
    tile (F := Ideal) x gf gl s1 s2 (ix2 r j)
      = norm (chain (fun k => x (ix2 r k)) (contrib (norm (fun k => x (ix2 r k)) (fun k => gf (ix2 0 k))) s1 s2)) (fun k => gl (ix2 0 k)) j := by
  unfold tile
  rw [pay10_at]
  simp only [pay18_at, pay15_at, pay12_at, pay11_at]
  rfl

end Cert.Kernel2Ideal.Ffn
-- ==== Proof.FfnValue.lean ====
/-
  The feed-forward kernel's result arrays over the extended reals: every row of either batch is the reference's row.
-/
module

public import proofs.«01_k».proof.Proof.FfnMath
public import proofs.«01_k».proof.Proof.FfnFrame
public import proofs.«01_k».proof.Proof.Gen.Reference2Ideal.Read

@[expose] public section

set_option maxRecDepth 16384

noncomputable section

namespace Cert.Kernel2Ideal.Ffn

open Idealize.ShloMosaic Idealize.ShloMosaic.TcCoe Idealize.SL.Sem

/-- One row of the layer's feed-forward half: the row, plus its 4096 hidden units, normalised. -/
def ffn (x gf : Fin 1024 → EReal) (a : Fin 1024 → Fin 4096 → EReal) (b : Fin 4096 → Fin 1024 → EReal) (gl : Fin 1024 → EReal) (j : Fin 1024) : EReal :=
  norm (fun j => x j + ∑ q, hid (norm x gf) (fun k => a k q) * b q j) gl j

section Reference
open Cert.Reference2Ideal Cert.Reference2Ideal.Read

theorem ref_prompt (x0 : FVec Ideal S16384x1024 .f32) (x2 : FVec Ideal S1024 .f32) (x3 : FVec Ideal S1024x4096 .f32) (x4 : FVec Ideal S4096x1024 .f32)
    (x5 : FVec Ideal S1024 .f32) (r : Fin 16384) (j : Fin 1024) :
    val_main_v30 (F := Ideal) x0 x2 x3 x4 x5 (ix2 r j)
      = ffn (fun k => x0 (ix2 r k)) (fun k => x2 (ix1 k)) (fun k q => x3 (ix2 k q)) (fun q j => x4 (ix2 q j)) (fun k => x5 (ix1 k)) j := by
  pointwise [val_main_v30, val_main_v29, val_main_v28, val_main_v27, val_main_v26, val_main_v25, val_main_v24, val_main_v23, val_main_cst_4, val_main_v22, val_main_v21, val_main_cst_3,
    val_main_v20, val_main_v19, val_main_cst_2, val_main_v18, val_main_v17, val_main_v16, val_main_v15, val_main_v14, val_main_call0_v0, val_main_call0_cst, val_main_v13,
    val_main_v12, val_main_v11, val_main_v10, val_main_v9, val_main_v8, val_main_v7, val_main_v6, val_main_v5, val_main_cst_1, val_main_v4, val_main_v3, val_main_cst_0, val_main_v2, val_main_v1, val_main_cst, val_main_v0, ffn, norm, hid]

theorem ref_sample (x1 : FVec Ideal S128x4x1024 .f32) (x2 : FVec Ideal S1024 .f32) (x3 : FVec Ideal S1024x4096 .f32) (x4 : FVec Ideal S4096x1024 .f32)
    (x5 : FVec Ideal S1024 .f32) (s : Fin 128) (t : Fin 4) (j : Fin 1024) :
    val_main_v61 (F := Ideal) x1 x2 x3 x4 x5 (ix3 s t j)
      = ffn (fun k => x1 (ix3 s t k)) (fun k => x2 (ix1 k)) (fun k q => x3 (ix2 k q)) (fun q j => x4 (ix2 q j)) (fun k => x5 (ix1 k)) j := by
  pointwise [val_main_v61, val_main_v60, val_main_v59, val_main_v58, val_main_v57, val_main_v56, val_main_v55, val_main_v54, val_main_cst_10, val_main_v53, val_main_v52, val_main_cst_9,
    val_main_v51, val_main_v50, val_main_cst_8, val_main_v49, val_main_v48, val_main_v47, val_main_v46, val_main_v45, val_main_call1_v0, val_main_call1_cst, val_main_v44,
    val_main_v43, val_main_v42, val_main_v41, val_main_v40, val_main_v39, val_main_v38, val_main_v37, val_main_v36, val_main_cst_7, val_main_v35, val_main_v34, val_main_cst_6, val_main_v33, val_main_v32, val_main_cst_5, val_main_v31, ffn, norm, hid]

end Reference

open Cert.Kernel2Ideal Cert.Kernel2Ideal.Gen

/-! ## The windows' blocks, read off the arguments -/

variable (m : (ℓ : Loc nD τ sig) → Buf (Elt Ideal) ℓ) (c : Dev nD)

theorem idx_whole : ∀ t : Fin cfg0.N, win0_1.index t = ![0, 0, 0] ∧ win0_2.index t = ![0, 0] ∧ win0_5.index t = ![0, 0] ∧ win0_7.index t = ![0, 0, 0] :=
  (by decide +kernel : ∀ t : Fin grid0.N, win0_1.index t = ![0, 0, 0] ∧ win0_2.index t = ![0, 0] ∧ win0_5.index t = ![0, 0] ∧ win0_7.index t = ![0, 0, 0])

theorem idx_chunk : ∀ t : Fin cfg0.N, t.val < 8 → win0_3.index t = ![0, t.val] ∧ win0_4.index t = ![t.val, 0] :=
  (by decide +kernel : ∀ t : Fin grid0.N, t.val < 8 → win0_3.index t = ![0, t.val] ∧ win0_4.index t = ![t.val, 0])

theorem idx_tile : ∀ t : Fin cfg0.N, 8 ≤ t.val → win0_0.index t = ![t.val - 8, 0] ∧ win0_6.index t = ![t.val - 8, 0] :=
  (by decide +kernel : ∀ t : Fin grid0.N, 8 ≤ t.val → win0_0.index t = ![t.val - 8, 0] ∧ win0_6.index t = ![t.val - 8, 0])

theorem blk0_at (t : Fin cfg0.N) (h : 8 ≤ t.val) (r k : Fin 1024) :
    iblk m c 0 t (ix2 r k) = m ((c : Thread nD τ).loc main_arg0) (ix2 (⟨(t.val - 8) * 1024 + r.val, by have : t.val < 24 := t.isLt; omega⟩ : Fin 16384) k) := by
  blk_point [iblk, V, idx_tile t h]

theorem blk1_at (t : Fin cfg0.N) (a : Fin 128) (b : Fin 4) (k : Fin 1024) :
    iblk m c 1 t (ix3 a b k) = m ((c : Thread nD τ).loc main_arg1) (ix3 a b k) := by
  blk_point [iblk, V, idx_whole t]

theorem blk2_at (t : Fin cfg0.N) (k : Fin 1024) : iblk m c 2 t (ix2 0 k) = m ((c : Thread nD τ).loc main_arg2) (ix1 k) := by
  blk_point [iblk, V, idx_whole t]

theorem blk5_at (t : Fin cfg0.N) (k : Fin 1024) : iblk m c 5 t (ix2 0 k) = m ((c : Thread nD τ).loc main_arg5) (ix1 k) := by
  blk_point [iblk, V, idx_whole t]

theorem blk3_at (t : Fin cfg0.N) (h : t.val < 8) (k : Fin 1024) (q : Fin 512) :
    iblk m c 3 t (ix2 k q) = m ((c : Thread nD τ).loc main_arg3) (ix2 k (⟨t.val * 512 + q.val, by omega⟩ : Fin 4096)) := by
  blk_point [iblk, V, idx_chunk t h]

theorem blk4_at (t : Fin cfg0.N) (h : t.val < 8) (q : Fin 512) (k : Fin 1024) :
    iblk m c 4 t (ix2 q k) = m ((c : Thread nD τ).loc main_arg4) (ix2 (⟨t.val * 512 + q.val, by omega⟩ : Fin 4096) k) := by
  blk_point [iblk, V, idx_chunk t h]

/-! ## The sum over the hidden units, chunk by chunk -/

/-- Chunk `k`'s share of a row's sum over the hidden units. -/
def share (h : Fin 1024 → EReal) (a : Fin 1024 → Fin 4096 → EReal) (b : Fin 4096 → Fin 1024 → EReal) (k : Fin 8) (j : Fin 1024) : EReal :=
  part h (fun i q => a i ⟨k.val * 512 + q.val, by omega⟩) (fun q j => b ⟨k.val * 512 + q.val, by omega⟩ j) j

theorem sum_share (h : Fin 1024 → EReal) (a : Fin 1024 → Fin 4096 → EReal) (b : Fin 4096 → Fin 1024 → EReal) (j : Fin 1024) :
    ∑ k, share h a b k j = ∑ q, hid h (fun i => a i q) * b q j :=
  (Fin.sum_univ_tiles 8 512 rfl fun q => hid h (fun i => a i q) * b q j).symm

theorem chain_share (x h : Fin 1024 → EReal) (a : Fin 1024 → Fin 4096 → EReal) (b : Fin 4096 → Fin 1024 → EReal) :
    chain x (share h a b) = fun j => x j + ∑ q, hid h (fun i => a i q) * b q j := by
  funext j
  rw [← sum_share, chain, Fin.sum_univ_eight]
  simp only [add_assoc]

/-- The weights of the two products, as the arguments hold them. -/
abbrev wa (i : Fin 1024) (q : Fin 4096) : EReal := m ((c : Thread nD τ).loc main_arg3) (ix2 i q)
abbrev wb (q : Fin 4096) (j : Fin 1024) : EReal := m ((c : Thread nD τ).loc main_arg4) (ix2 q j)
abbrev ga (k : Fin 1024) : EReal := m ((c : Thread nD τ).loc main_arg2) (ix1 k)
abbrev gb (k : Fin 1024) : EReal := m ((c : Thread nD τ).loc main_arg5) (ix1 k)

theorem contrib_chunk (h : Fin 1024 → EReal) : contrib h (chunk1 m c) (chunk2 m c) = share h (wa m c) (wb m c) := by
  funext k j
  unfold contrib share part
  refine Finset.sum_congr rfl fun q _ => ?_
  have e1 : ∀ i : Fin 1024, chunk1 m c k (ix3 0 i q) = wa m c i ⟨k.val * 512 + q.val, by omega⟩ := fun i => by
    refine Eq.trans ?_ (blk3_at m c (pt k.val (by omega)) k.isLt i q)
    unfold chunk1
    pointwise [k0_pay6, k0_pay4]
  have e2 : chunk2 m c k (ix3 0 q j) = wb m c ⟨k.val * 512 + q.val, by omega⟩ j := by
    refine Eq.trans ?_ (blk4_at m c (pt k.val (by omega)) k.isLt q j)
    unfold chunk2
    pointwise [k0_pay7, k0_pay5]
  simp only [e1, e2]

/-! ## The prompt's result -/

/-- The prompt's rows, as the reference computes them. -/
def promptRows (c : Dev nD) : FVec Ideal S16384x1024 .f32 := fun i =>
  ffn (fun k => m ((c : Thread nD τ).loc main_arg0) (ix2 (i 0) k)) (ga m c) (wa m c) (wb m c) (gb m c) (i 1)

theorem tileOut_at (t : Fin cfg0.N) (h : 8 ≤ t.val) (r j : Fin 1024) :
    tileOut m c t (ix2 r j) = promptRows m c (ix2 (⟨(t.val - 8) * 1024 + r.val, by have : t.val < 24 := t.isLt; omega⟩ : Fin 16384) j) := by
  unfold tileOut
  rw [tile_at, contrib_chunk, chain_share]
  simp only [blk0_at m c t h, blk2_at, blk5_at]
  rfl

theorem final_prompt : (dats m 0 c).arrAt 6 cfg0.N = promptRows m c := by
  refine (dats m 0 c).arrAt_eq_of_covers 6 _ (by decide +kernel) fun t hf y => ?_
  have h8 : 8 ≤ t.val := by
    by_contra h
    rw [flush_6 t (by omega)] at hf
    exact Bool.false_ne_true hf
  blk_simp
  rw [after_6]
  idx_vars y
  refine (tileOut_at m c t h8 y0 y1).trans ?_
  refine congrArg (promptRows m c) ?_
  blk_ext [idx_tile t h8]

/-! ## The sample rows -/

/-- The sample's rows, as the reference computes them. -/
def sampleRows (c : Dev nD) : FVec Ideal S128x4x1024 .f32 := fun i =>
  ffn (fun k => m ((c : Thread nD τ).loc main_arg1) (ix3 (i 0) (i 1) k)) (ga m c) (wa m c) (wb m c) (gb m c) (i 2)

/-- Row `r` of the flattened sample batch. -/
def srow (r : Fin 512) (k : Fin 1024) : EReal :=
  m ((c : Thread nD τ).loc main_arg1) (ix3 (⟨r.val / 4, by omega⟩ : Fin 128) (⟨r.val % 4, by omega⟩ : Fin 4) k)

theorem rowsIn_at (r : Fin 512) (k : Fin 1024) : rowsIn m c (ix2 r k) = norm (srow m c r) (ga m c) k := by
  unfold rowsIn
  rw [pay2_at]
  simp only [blk1_at, blk2_at]
  rfl

theorem accAt_at (r : Fin 512) (j : Fin 1024) : ∀ (n : ℕ) (hn : n ≤ 8),
    accAt m c n (ix2 r j) = srow m c r j + ∑ k : Fin n, share (norm (srow m c r) (ga m c)) (wa m c) (wb m c) ⟨k.val, by omega⟩ j
  | 0, _ => by
    rw [Finset.univ_eq_empty, Finset.sum_empty, accAt, pay3_at, blk1_at]
    exact (add_zero _).symm
  | n + 1, hn => by
    have hc := accAt_chunk m c (pt n (by omega)) (show n < 8 by omega)
    refine (congrFun hc (ix2 r j)).trans ?_
    rw [pay8_at, Fin.sum_univ_castSucc, ← add_assoc]
    refine congrArg₂ (· + ·) (accAt_at r j n (by omega)) ?_
    simp only [rowsIn_at, blk3_at m c (pt n (by omega)) (show n < 8 by omega), blk4_at m c (pt n (by omega)) (show n < 8 by omega)]
    rfl

theorem rowsOut_at (s : Fin 128) (t : Fin 4) (j : Fin 1024) : rowsOut m c (ix3 s t j) = sampleRows m c (ix3 s t j) := by
  unfold rowsOut
  rw [pay9_at]
  simp only [accAt_at m c _ _ 8 le_rfl, blk5_at]
  have e : srow m c ⟨s.val * 4 + t.val, by omega⟩ = fun k => m ((c : Thread nD τ).loc main_arg1) (ix3 s t k) := by
    funext k
    unfold srow
    congr 2 <;> exact Fin.ext (by simp only; omega)
  simp only [e]
  unfold sampleRows ffn
  refine congrArg (fun f => norm f (gb m c) j) (funext fun j => Ideal.add_congr rfl ?_)
  exact sum_share _ _ _ j

theorem final_sample : (dats m 0 c).arrAt 7 cfg0.N = sampleRows m c := by
  refine (dats m 0 c).arrAt_eq_of_after_last 7 (pt 23 (by omega)) (by decide +kernel) _ fun y => ?_
  blk_simp
  rw [after_7]
  idx_vars y
  refine (rowsOut_at m c y0 y1 y2).trans ?_
  refine congrArg (sampleRows m c) ?_
  blk_ext [idx_whole (pt 23 (by omega))]

/-! ## Both sides -/

theorem ref_prompt_rows : Cert.Reference2Ideal.Read.val_main_v30 (F := Ideal) (m ((c : Thread nD τ).loc main_arg0)) (m ((c : Thread nD τ).loc main_arg2))
    (m ((c : Thread nD τ).loc main_arg3)) (m ((c : Thread nD τ).loc main_arg4)) (m ((c : Thread nD τ).loc main_arg5)) = promptRows m c := by
  funext i
  rw [eq_ix2 i]
  exact ref_prompt _ _ _ _ _ _ _

theorem ref_sample_rows : Cert.Reference2Ideal.Read.val_main_v61 (F := Ideal) (m ((c : Thread nD τ).loc main_arg1)) (m ((c : Thread nD τ).loc main_arg2))
    (m ((c : Thread nD τ).loc main_arg3)) (m ((c : Thread nD τ).loc main_arg4)) (m ((c : Thread nD τ).loc main_arg5)) = sampleRows m c := by
  funext i
  rw [eq_ix3 i]
  exact ref_sample _ _ _ _ _ _ _ _

end Cert.Kernel2Ideal.Ffn
-- ==== Proof.FfnClaims.lean ====
/-
  The feed-forward kernel's claims: its frames and its values.
-/
module

public import proofs.«01_k».proof.Defs
public import proofs.«01_k».proof.Proof.FfnValue
public import proofs.«01_k».proof.Proof.Gen.Reference2Ideal.Run
public import proofs.«01_k».proof.Proof.Gen.Kernel2
public import Idealize.ShloMosaic.Lib.Claim
public import Idealize.ShloMosaic.Lib.Quiescent

@[expose] public section

set_option maxRecDepth 16384

noncomputable section

namespace Cert.Proof

open Idealize.ShloMosaic Idealize.SL.Sem

theorem frame_Kernel2Ideal : Cert.quiescent_Kernel2Ideal (hKernel2Ideal := Cert.Kernel2Ideal.Gen.facts) :=
  fun m g _ => Cert.Kernel2Ideal.Ffn.frame (F := Ideal) m g

theorem frame_Reference2Ideal : Cert.quiescent_Reference2Ideal (hReference2Ideal := Cert.Reference2Ideal.Gen.facts) := fun m g _ =>
  (θ_run Cert.Reference2Ideal.defs _ _).mono (fun r h => ⟨fun c => (h c).2.2, sem_eq_zero_of_no_sems rfl r.2⟩)
    (Cert.Reference2Ideal.Value.run (F := Ideal) m g)

theorem algebraic_ffn : Cert.algebraic_Kernel2Ideal_Reference2Ideal (hKernel2Ideal := Cert.Kernel2Ideal.Gen.facts) (hReference2Ideal := Cert.Reference2Ideal.Gen.facts) := by
  pair_intro
  · run_from Cert.Kernel2Ideal.Ffn.run_main m g
  · run_from Cert.Reference2Ideal.Value.run m' g'
    · rw [Cert.Reference2Ideal.Read.val_main_v30_eq]
      obtain ⟨h0, h1, h2, h3, h4, h5⟩ := hagree c
      rw [h0, h2, h3, h4, h5]
      exact (Cert.Kernel2Ideal.Ffn.ref_prompt_rows m c).trans (Cert.Kernel2Ideal.Ffn.final_prompt m c).symm
    · rw [Cert.Reference2Ideal.Read.val_main_v61_eq]
      obtain ⟨h0, h1, h2, h3, h4, h5⟩ := hagree c
      rw [h1, h2, h3, h4, h5]
      exact (Cert.Kernel2Ideal.Ffn.ref_sample_rows m c).trans (Cert.Kernel2Ideal.Ffn.final_sample m c).symm

end Cert.Proof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.MixBits
public import proofs.«01_k».proof.Proof.MixClaims
public import proofs.«01_k».proof.Proof.FfnBits
public import proofs.«01_k».proof.Proof.FfnClaims

@[expose] public section

noncomputable section

namespace Cert.Proof

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    frame_Kernel, frame_KernelIdeal, frame_ReferenceIdeal, frame_Kernel2, frame_Kernel2Ideal, frame_Reference2Ideal,
    preserves_Kernel, trivial, algebraic_ffn⟩

end Cert.Proof

end
